-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_nonzero [hPre_rows_nonzero : Cert.Pre_rows_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_rows_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_nonzero [hPre_rows_nonzero : Cert.Pre_rows_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_nonzero [hKernelIdeal : Cert.KernelIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_nonzero [hReferenceIdeal : Cert.ReferenceIdeal.Facts] [hPre_rows_nonzero : Cert.Pre_rows_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_nonzero [hKernelIdeal : Cert.KernelIdeal.Facts] [hReferenceIdeal : Cert.ReferenceIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_nonzero : Cert.Pre_rows_nonzero.Facts),
    quiescent_Kernel (hKernel := hKernel)
    ∧ quiescent_KernelIdeal (hKernelIdeal := hKernelIdeal)
    ∧ quiescent_KernelIdeal_pre_rows_nonzero (hKernelIdeal := hKernelIdeal) (hPre_rows_nonzero := hPre_rows_nonzero)
    ∧ quiescent_ReferenceIdeal (hReferenceIdeal := hReferenceIdeal)
    ∧ quiescent_ReferenceIdeal_pre_rows_nonzero (hReferenceIdeal := hReferenceIdeal) (hPre_rows_nonzero := hPre_rows_nonzero)
    ∧ preserves_Kernel_KernelIdeal
    ∧ algebraic_KernelIdeal_ReferenceIdeal_pre_rows_nonzero (hKernelIdeal := hKernelIdeal) (hReferenceIdeal := hReferenceIdeal) (hPre_rows_nonzero := hPre_rows_nonzero)
-- ==== Pre_rows_nonzero.lean ====
abbrev S4096x1024 : Shape := ⟨2, ![4096, 1024]⟩
abbrev S_ : Shape := ⟨0, ![]⟩
abbrev S4096 : Shape := ⟨1, ![4096]⟩

class Facts : Prop where
  bcast_S_S4096x1024 : S_.BroadcastsInDim S4096x1024 (![] : Fin 0 → Fin S4096x1024.rank)
  reducesTo_S4096x1024_S4096_d1 : S4096x1024.ReducesTo [1] S4096
  h_S_ : 0 < S_.numel

variable [Facts]

def fn {F : FTy → Type} [FloatOps F] (main_arg0 : FVec F S4096x1024 .f32) (main_arg1 : FVec F S4096x1024 .f32) : IVec S4096 1 :=
  let main_cst : FVec F S_ .f32 := constant S_ .f32 0x00000000#32
  let main_v0 : FVec F S4096x1024 .f32 := broadcastInDim S4096x1024 ![] bcast_S_S4096x1024 main_cst
  let main_v1 : IVec S4096x1024 1 := cmpf .une main_arg0 main_v0
  let main_c : IVec S_ 1 := constantI S_ 1 0#1
  let main_v2 : IVec S4096 1 := (fun x v => Host.reduce IntOp.ori x v reducesTo_S4096x1024_S4096_d1 h_S_) main_v1 main_c
  let main_cst_0 : FVec F S_ .f32 := constant S_ .f32 0x00000000#32
  let main_v3 : FVec F S4096x1024 .f32 := broadcastInDim S4096x1024 ![] bcast_S_S4096x1024 main_cst_0
  let main_v4 : IVec S4096x1024 1 := cmpf .une main_arg1 main_v3
  let main_c_1 : IVec S_ 1 := constantI S_ 1 0#1
  let main_v5 : IVec S4096 1 := (fun x v => Host.reduce IntOp.ori x v reducesTo_S4096x1024_S4096_d1 h_S_) main_v4 main_c_1
  let main_v6 : IVec S4096 1 := andi main_v2 main_v5
  main_v6
-- ==== Kernel.lean ====
abbrev S4096x1024 : Shape := ⟨2, ![4096, 1024]⟩
abbrev S4096x4096 : Shape := ⟨2, ![4096, 4096]⟩
abbrev S8x128 : Shape := ⟨2, ![8, 128]⟩
abbrev S1x2 : Shape := ⟨2, ![1, 2]⟩
abbrev S2 : Shape := ⟨1, ![2]⟩
abbrev S_ : Shape := ⟨0, ![]⟩
abbrev S1024x1024 : Shape := ⟨2, ![1024, 1024]⟩
abbrev S2048x1024 : Shape := ⟨2, ![2048, 1024]⟩
abbrev S1024x1 : Shape := ⟨2, ![1024, 1]⟩
abbrev S1024x128 : Shape := ⟨2, ![1024, 128]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S8x128, .f32⟩
  | .hbm, ⟨4, _⟩ => ⟨S1x2, .f32⟩
  | .hbm, ⟨5, _⟩ => ⟨S2, .f32⟩
  | .hbm, ⟨6, _⟩ => ⟨S_, .f32⟩
  | .hbm, ⟨7, _⟩ => ⟨S2, .f32⟩
  | .hbm, ⟨8, _⟩ => ⟨S2, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | .local _ .vmem, ⟨8, _⟩ => ⟨S4096x1024, .bf16⟩
  | .local _ .vmem, ⟨9, _⟩ => ⟨S2048x1024, .bf16⟩
  | .local _ .vmem, ⟨10, _⟩ => ⟨S1024x1, .f32⟩
  | .local _ .vmem, ⟨11, _⟩ => ⟨S1024x128, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_1 : Ref sig .tc := ⟨.hbm, 2, rfl⟩
abbrev main_call0_v0_1 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_v0_0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let arg1 : BitVec 32 := BitVec.ofNat 32 (i 1).val
  let c3_i32 : BitVec 32 := 3#32
  let v8 : BitVec 1 := Scalar.cmpi .slt arg1 c3_i32
  let v9 : BitVec 1 := Scalar.andi v7 v8
  let v10 : BitVec 32 := Scalar.extui v9
  let c0_i32_3 : BitVec 32 := 0#32
  let v11 : BitVec 1 := Scalar.cmpi .ne v10 c0_i32_3
  v11

def k0_off1 (i : grid0.Coords) : Fin 2 → Nat :=
  let arg1 : BitVec 32 := BitVec.ofNat 32 (i 1).val
  let c1_i32 : BitVec 32 := 1#32
  let v43 : BitVec 32 := Scalar.addi arg1 c1_i32
  let c1024_i32_20 : BitVec 32 := 1024#32
  let v44 : BitVec 32 := Scalar.muli v43 c1024_i32_20
  let v45 : Index := Scalar.indexCast v44
  let c0_21 : Index := 0#32
  ![v45.toNat, 0]
def k0_cond3 (i : grid0.Coords) : BitVec 1 :=
  let arg1 : BitVec 32 := BitVec.ofNat 32 (i 1).val
  let c3_i32_4 : BitVec 32 := 3#32
  let v12 : BitVec 1 := Scalar.cmpi .eq arg1 c3_i32_4
  let arg0 : BitVec 32 := BitVec.ofNat 32 (i 0).val
  let c3_i32_5 : BitVec 32 := 3#32
  let v13 : BitVec 1 := Scalar.cmpi .slt arg0 c3_i32_5
  let v14 : BitVec 1 := Scalar.andi v12 v13
  let v15 : BitVec 32 := Scalar.extui v14
  let c0_i32_6 : BitVec 32 := 0#32
  let v16 : BitVec 1 := Scalar.cmpi .ne v15 c0_i32_6
  v16

def k0_off2 (i : grid0.Coords) : Fin 2 → Nat :=
  let arg0 : BitVec 32 := BitVec.ofNat 32 (i 0).val
  let c1_i32 : BitVec 32 := 1#32
  let v43 : BitVec 32 := Scalar.addi arg0 c1_i32
  let c2_i32_20 : BitVec 32 := 2#32
  let c0_i32_21 : BitVec 32 := 0#32
  let v44 : BitVec 1 := Scalar.cmpi .eq c2_i32_20 c0_i32_21
  let c1_i32_22 : BitVec 32 := 1#32
  let v45 : BitVec 32 := Scalar.select v44 c1_i32_22 c2_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let c1024_i32_26 : BitVec 32 := 1024#32
  let v54 : BitVec 32 := Scalar.muli v53 c1024_i32_26
  let v55 : Index := Scalar.indexCast v54
  let c0_27 : Index := 0#32
  ![v55.toNat, 0]
def k0_off3 (i : grid0.Coords) : Fin 2 → Nat :=
  let arg0 : BitVec 32 := BitVec.ofNat 32 (i 0).val
  let c2_i32 : BitVec 32 := 2#32
  let v17 : BitVec 32 := Scalar.remsi arg0 c2_i32
  let c1024_i32 : BitVec 32 := 1024#32
  let v18 : BitVec 32 := Scalar.muli v17 c1024_i32
  let v19 : Index := Scalar.indexCast v18
  let c0 : Index := 0#32
  ![v19.toNat, 0]
def k0_off4 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c4_i32 : BitVec 32 := 4#32
  let v1 : BitVec 32 := Scalar.remsi v0 c4_i32
  let c1024_i32_7 : BitVec 32 := 1024#32
  let v21 : BitVec 32 := Scalar.muli v1 c1024_i32_7
  let v22 : Index := Scalar.indexCast v21
  let c0_8 : Index := 0#32
  ![v22.toNat, 0]
def k0_cond8 (i : grid0.Coords) : BitVec 1 :=
  let arg1 : BitVec 32 := BitVec.ofNat 32 (i 1).val
  let c3_i32_15 : BitVec 32 := 3#32
  let v32 : BitVec 1 := Scalar.cmpi .eq arg1 c3_i32_15
  let v33 : BitVec 32 := Scalar.extui v32
  let c0_i32_16 : BitVec 32 := 0#32
  let v34 : BitVec 1 := Scalar.cmpi .ne v33 c0_i32_16
  v34

def k0_cond9 (i : grid0.Coords) : BitVec 1 :=
  let arg0 : BitVec 32 := BitVec.ofNat 32 (i 0).val
  let c0_i32_28 : BitVec 32 := 0#32
  let v73 : BitVec 1 := Scalar.cmpi .eq arg0 c0_i32_28
  let v74 : BitVec 32 := Scalar.extui v73
  let c0_i32_29 : BitVec 32 := 0#32
  let v75 : BitVec 1 := Scalar.cmpi .ne v74 c0_i32_29
  v75

def k0_cond10 (i : grid0.Coords) : BitVec 1 :=
  let arg0 : BitVec 32 := BitVec.ofNat 32 (i 0).val
  let c0_i32_30 : BitVec 32 := 0#32
  let v76 : BitVec 1 := Scalar.cmpi .sgt arg0 c0_i32_30
  let v77 : BitVec 32 := Scalar.extui v76
  let c0_i32_31 : BitVec 32 := 0#32
  let v78 : BitVec 1 := Scalar.cmpi .ne v77 c0_i32_31
  v78

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg1 c3_i32
  let c1_i32 : BitVec 32 := 1#32
  let v1 : BitVec 32 := Scalar.addi arg0 c1_i32
  let c3_i32_0 : BitVec 32 := 3#32
  let v2 : BitVec 32 := Scalar.minsi v1 c3_i32_0
  let v3 : BitVec 32 := Scalar.select v0 v2 arg0
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.addi arg1 c1_i32
  let c3_i32 : BitVec 32 := 3#32
  let v2 : BitVec 32 := Scalar.minsi v1 c3_i32
  let c3_i32_0 : BitVec 32 := 3#32
  let v3 : BitVec 32 := Scalar.select v0 v2 c3_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S4096x10 : Shape := ⟨2, ![4096, 10]⟩
abbrev S1 : Shape := ⟨1, ![1]⟩
abbrev S2 : Shape := ⟨1, ![2]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1024x4096, .f32⟩
  | .hbm, ⟨18, _⟩ => ⟨S4096x4096, .f32⟩
  | .hbm, ⟨19, _⟩ => ⟨S4096x1, .f32⟩
  | .hbm, ⟨20, _⟩ => ⟨S4096x1, .i32⟩
  | .hbm, ⟨21, _⟩ => ⟨S4096x1, .i32⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x10, .f32⟩
  | .hbm, ⟨31, _⟩ => ⟨S4096x10, .i32⟩
  | .hbm, ⟨32, _⟩ => ⟨S4096x1, .i32⟩
  | .hbm, ⟨33, _⟩ => ⟨S4096x10, .i32⟩
  | .hbm, ⟨34, _⟩ => ⟨S4096x10, .i1⟩
  | .hbm, ⟨35, _⟩ => ⟨S_, .i1⟩
  | .hbm, ⟨36, _⟩ => ⟨S4096, .i1⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S2, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_values : Ref sig .tc := ⟨.hbm, 19, rfl⟩
abbrev main_indices : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_values_1 : Ref sig .tc := ⟨.hbm, 30, rfl⟩
abbrev main_indices_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Proof.Triples.lean ====
/- A small program logic for the kernel's body: the whole block state as one record, a triple that says how a piece of the
   body maps one record to the next, and its rules (a load, a store, a branch, a sequence). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Writes
public import Idealize.ShloMosaic.Lib.Tactic
public import Idealize.ShloMosaic.Lib.WordCmp

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the buffers of the body hold: the three input blocks, the two output blocks, and the four scratches (the
    normalised blocks of `Z` and `Y`, the diagonal, the running counts). -/
structure St (F : FTy → Type) [FloatOps F] where
  x0 : Vec F S1024x1024 .f32
  x1 : Vec F S1024x1024 .f32
  x2 : Vec F S1024x1024 .f32
  sim : Vec F S1024x1024 .f32
  acc : Vec F S8x128 .f32
  zn : Vec F S4096x1024 .bf16
  yn : Vec F S2048x1024 .bf16
  dg : Vec F S1024x1 .f32
  cn : Vec F S1024x128 .i32

/-- The nine buffers the body is handed. -/
structure Bufs where
  b0 : Memref sig .tc .vmem S1024x1024 .f32
  b1 : Memref sig .tc .vmem S1024x1024 .f32
  b2 : Memref sig .tc .vmem S1024x1024 .f32
  b3 : Memref sig .tc .vmem S1024x1024 .f32
  b4 : Memref sig .tc .vmem S8x128 .f32
  b5 : Memref sig .tc .vmem S4096x1024 .bf16
  b6 : Memref sig .tc .vmem S2048x1024 .bf16
  b7 : Memref sig .tc .vmem S1024x1 .f32
  b8 : Memref sig .tc .vmem S1024x128 .i32

variable (c : Dev nD) (E : Set ℕ) (B : Bufs)

/-- The nine buffers owned, holding what the record says. -/
def own (s : St F) : sProp 𝕄 :=
  iprop(owns (c : Thread nD τ) B.b0 fullShare s.x0 ∗ owns (c : Thread nD τ) B.b1 fullShare s.x1
    ∗ owns (c : Thread nD τ) B.b2 fullShare s.x2 ∗ owns (c : Thread nD τ) B.b3 fullShare s.sim
    ∗ owns (c : Thread nD τ) B.b4 fullShare s.acc ∗ owns (c : Thread nD τ) B.b5 fullShare s.zn
    ∗ owns (c : Thread nD τ) B.b6 fullShare s.yn ∗ owns (c : Thread nD τ) B.b7 fullShare s.dg
    ∗ owns (c : Thread nD τ) B.b8 fullShare s.cn)

/-- The piece of program `p` takes the record `s` to `f s` and answers `r s`. -/
def HT {α : Type} (p : Prog (TpuEff nD τ sig (Elt F) Λ₀ .tc) α) (f : St F → St F) (r : St F → α) : Prop :=
  ∀ (s : St F) (Q : α → sProp 𝕄),
    (own c B s : sProp 𝕄) ⊢ iprop((own c B (f s) -∗ Q (r s)) -∗ wp frame (wpE (defs₀ (F := F)) Variants.none (c : Thread nD τ) none) E p Q)

section Rules

variable {c E B} {α β : Type}

theorem HT.pure (a : α) : HT (F := F) c E B (Pure.pure a) id (fun _ => a) := by
  intro s Q
  simp only [wp_pure, id]
  iintro H Hk
  imodintro
  iapply Hk
  iexact H

theorem HT.bind {p : Prog (TpuEff nD τ sig (Elt F) Λ₀ .tc) α} {k : α → Prog (TpuEff nD τ sig (Elt F) Λ₀ .tc) β}
    {f : St F → St F} {r : St F → α} {g : α → St F → St F} {r' : α → St F → β}
    (hp : HT c E B p f r) (hk : ∀ a, HT c E B (k a) (g a) (r' a)) :
    HT c E B (p >>= k) (fun s => g (r s) (f s)) (fun s => r' (r s) (f s)) := by
  intro s Q
  simp only [wp_bind]
  iintro H Hk
  iapply (hp s (fun a => wp frame (wpE (defs₀ (F := F)) Variants.none (c : Thread nD τ) none) E (k a) Q)) $$ H
  iintro H
  iapply (hk (r s) (f s) Q) $$ H
  iexact Hk

/-- The same where the rest is run only on what the first piece can answer. -/
theorem HT.bindS {p : Prog (TpuEff nD τ sig (Elt F) Λ₀ .tc) α} {k : α → Prog (TpuEff nD τ sig (Elt F) Λ₀ .tc) β}
    {f : St F → St F} {r : St F → α} {g : St F → St F → St F} {r' : St F → St F → β}
    (hp : HT c E B p f r) (hk : ∀ s, HT c E B (k (r s)) (g s) (r' s)) :
    HT c E B (p >>= k) (fun s => g s (f s)) (fun s => r' s (f s)) := by
  intro s Q
  simp only [wp_bind]
  iintro H Hk
  iapply (hp s (fun a => wp frame (wpE (defs₀ (F := F)) Variants.none (c : Thread nD τ) none) E (k a) Q)) $$ H
  iintro H
  iapply (hk s (f s) Q) $$ H
  iexact Hk

theorem HT.ite {P : Prop} [Decidable P] {p : P → Prog (TpuEff nD τ sig (Elt F) Λ₀ .tc) α}
    {q : ¬ P → Prog (TpuEff nD τ sig (Elt F) Λ₀ .tc) α} {f : P → St F → St F} {g : ¬ P → St F → St F} {r : St F → α}
    (hp : ∀ h, HT c E B (p h) (f h) r) (hq : ∀ h, HT c E B (q h) (g h) r) :
    HT c E B (if h : P then p h else q h) (fun s => if h : P then f h s else g h s) r := by
  by_cases h : P
  · simp only [dif_pos h]; exact hp h
  · simp only [dif_neg h]; exact hq h

/-- A branch without an alternative, followed by `j`. -/
theorem HT.iteThen {P : Prop} [Decidable P] {p : P → Prog (TpuEff nD τ sig (Elt F) Λ₀ .tc) α}
    {j : Prog (TpuEff nD τ sig (Elt F) Λ₀ .tc) α} {f : P → St F → St F} {g : St F → St F} {r : St F → α}
    (hj : HT c E B j g r) (hp : ∀ h, HT c E B (p h) (fun s => g (f h s)) (fun s => r (f h s))) :
    HT c E B (if h : P then p h else j) (fun s => g (if h : P then f h s else s)) (fun s => r (if h : P then f h s else s)) := by
  by_cases h : P
  · simp only [dif_pos h]; exact hp h
  · simp only [dif_neg h]; exact hj

theorem HT.conv {p : Prog (TpuEff nD τ sig (Elt F) Λ₀ .tc) α} {f f' : St F → St F} {r r' : St F → α}
    (h : HT c E B p f r) (hf : ∀ s, f s = f' s) (hr : ∀ s, r s = r' s) : HT c E B p f' r' := by
  intro s Q; rw [← hf, ← hr]; exact h s Q

/-- One buffer taken out of the nine, to be put back with what it then holds. -/
def Acc {S : Shape} {e : EltTy} (c : Dev nD) (B : Bufs) (m : Memref sig .tc .vmem S e) (get : St F → Vec F S e) (set : St F → Vec F S e → St F) : Prop :=
  (∀ s, set s (get s) = s) ∧
  ∀ s, (own c B s : sProp 𝕄) ⊢ iprop(owns (c : Thread nD τ) m fullShare (get s) ∗ (∀ v, owns (c : Thread nD τ) m fullShare v -∗ own c B (set s v)))

variable {S : Shape} {e : EltTy} {m : Memref sig .tc .vmem S e} {get : St F → Vec F S e} {set : St F → Vec F S e → St F}

theorem Acc.keep (ha : Acc c B m get set) (s : St F) :
    (own c B s : sProp 𝕄) ⊢ iprop(owns (c : Thread nD τ) m fullShare (get s) ∗ (owns (c : Thread nD τ) m fullShare (get s) -∗ own c B s)) := by
  have h := ha.2 s
  iintro H
  ihave H' := h $$ H
  icases H' with ⟨Hm, Hback⟩
  isplitl [Hm]
  · iexact Hm
  iintro Hm
  ihave H2 := Hback $$ %(get s)
  rw [ha.1 s]
  iapply H2
  iexact Hm

/-- A load through a rectangle answers what the record says there, and changes nothing. -/
theorem HT.load (ha : Acc c B m get set) (r : Rect S) {hl : m.view.LoadsAt r.toLoadRect} :
    HT (F := F) c E B (Prog.lift (.load m r.toLoadRect hl)) id (fun s x => get s (r.emb x)) := by
  intro s Q
  iintro H Hk
  ihave H' := ha.keep s $$ H
  icases H' with ⟨Hm, Hback⟩
  unfold owns
  icases Hm with ⟨%f, %hf, Hm⟩
  have hS : (m.access r).set ⊆ m.view.set := View.set_slice_subset _ _
  iapply (wp_load_rect Variants.none (c : Thread nD τ) none E (hl := hl) (Q := Q) (f := f) (q := fullShare) hS) $$ Hm
  iintro Hm
  iapply (le_wp_ret _ _ _ _ _)
  have hv : (m.access r).read (Elt F) f = fun x => get s (r.emb x) := by
    rw [← hf]; rfl
  rw [hv]
  iapply Hk
  simp only [id]
  iapply Hback
  iexists f
  isplitr
  · ipureintro; exact hf
  iexact Hm

/-- An unmasked store through a rectangle replaces what the record says there. -/
theorem HT.store (ha : Acc c B m get set) (r : Rect S) (w : r.shape.Idx → Elt F e) {hx : (m.access r).Stores Finset.univ}
    {hm : Finset.univ = Finset.univ ∨ ∀ a, r.stride a = 1} :
    HT (F := F) c E B (Prog.lift (.store m r w Finset.univ hx hm)) (fun s => set s (r.overlay (get s) w)) (fun _ => ⟨⟩) := by
  intro s Q
  iintro H Hk
  ihave H' := ha.2 s $$ H
  icases H' with ⟨Hm, Hback⟩
  unfold owns
  icases Hm with ⟨%f, %hf, Hm⟩
  have hS : (m.access r).set ⊆ m.view.set := View.set_slice_subset _ _
  iapply (wp_store_writes₀ Variants.none (c : Thread nD τ) none E (hx := hx) (hm := hm) (Q := Q) (f := f) (w := w) hS) $$ Hm
  iintro Hm
  iapply (le_wp_ret _ _ _ _ _)
  iapply Hk
  iapply Hback
  iexists _
  isplitr
  · ipureintro
    show m.view.read (Elt F) (m.view.writes (Elt F) f [⟨r, w⟩]) = r.overlay (get s) w
    funext y
    by_cases hy : y ∈ r.set
    · obtain ⟨x, rfl⟩ : ∃ x, r.emb x = y := r.exists_idx_of_mem hy
      rw [View.read_writes_cons_emb, Rect.overlay_emb]
    · rw [Rect.overlay_of_not_mem _ _ _ hy, View.read_writes_apply_of_forall_not_mem _ _ _ _ (by
        intro p hp; rw [List.mem_singleton] at hp; subst hp; exact hy), hf]
  iexact Hm

theorem emb_full {S : Shape} {off : Fin S.rank → Nat} (inb : ∀ a, off a + S.size a ≤ S.size a) (x : S.Idx) :
    (Rect.unit (s := S) off S.size inb).emb x = x := by
  funext a
  apply Fin.ext
  show off a + 1 * (x a).val = (x a).val
  have := inb a
  omega

theorem overlay_full {S : Shape} {α : Type} {off : Fin S.rank → Nat} (inb : ∀ a, off a + S.size a ≤ S.size a) (X w : S.Idx → α) :
    (Rect.unit (s := S) off S.size inb).overlay X w = w := by
  funext y
  conv_lhs => rw [← emb_full inb y]
  exact Rect.overlay_emb (Rect.unit (s := S) off S.size inb) X w y

/-- A load of the whole buffer, -/
theorem HT.loadW (ha : Acc c B m get set) {off : Fin S.rank → Nat} (inb : ∀ a, off a + S.size a ≤ S.size a)
    {hl : m.view.LoadsAt (Rect.unit (s := S) off S.size inb).toLoadRect} :
    HT (F := F) (α := S.Idx → Elt F e) c E B (Prog.lift (.load m (Rect.unit (s := S) off S.size inb).toLoadRect hl)) id (fun s => get s) := by
  have h := HT.load (E := E) ha (Rect.unit (s := S) off S.size inb) (hl := hl)
  have e : (fun (s : St F) (x : (Rect.unit (s := S) off S.size inb).shape.Idx) => get s ((Rect.unit (s := S) off S.size inb).emb x)) = fun s => get s := by
    funext s x; exact congrArg (get s) (emb_full inb x)
  rw [e] at h
  exact h

/-- and a store over the whole buffer. -/
theorem HT.storeW (ha : Acc c B m get set) {off : Fin S.rank → Nat} (inb : ∀ a, off a + S.size a ≤ S.size a) (w : S.Idx → Elt F e)
    {hx : (m.access (Rect.unit (s := S) off S.size inb)).Stores Finset.univ}
    {hm : Finset.univ = Finset.univ ∨ ∀ a, (Rect.unit (s := S) off S.size inb).stride a = 1} :
    HT (F := F) c E B (Prog.lift (.store m (Rect.unit (s := S) off S.size inb) w Finset.univ hx hm)) (fun s => set s w) (fun _ => ⟨⟩) := by
  have h := HT.store (E := E) ha (Rect.unit (s := S) off S.size inb) w (hx := hx) (hm := hm)
  have e : (fun (s : St F) => set s ((Rect.unit (s := S) off S.size inb).overlay (get s) w)) = fun s => set s w := by
    funext s; rw [overlay_full inb (get s) w]
  rw [e] at h
  exact h

/-- The same rules with the rest of the program behind them: a load, -/
theorem HT.loadB (ha : Acc c B m get set) (r : Rect S) {hl : m.view.LoadsAt r.toLoadRect} {k : (r.shape.Idx → Elt F e) → Prog (TpuEff nD τ sig (Elt F) Λ₀ .tc) α}
    {g : (r.shape.Idx → Elt F e) → St F → St F} {r' : (r.shape.Idx → Elt F e) → St F → α} (hk : ∀ v, HT c E B (k v) (g v) (r' v)) :
    HT (F := F) c E B (Prog.lift (.load m r.toLoadRect hl) >>= k) (fun s => g (fun x => get s (r.emb x)) s) (fun s => r' (fun x => get s (r.emb x)) s) :=
  HT.bind (HT.load ha r) hk

/-- of the whole buffer, -/
theorem HT.loadWB (ha : Acc c B m get set) {off : Fin S.rank → Nat} (inb : ∀ a, off a + S.size a ≤ S.size a)
    {hl : m.view.LoadsAt (Rect.unit (s := S) off S.size inb).toLoadRect} {k : (S.Idx → Elt F e) → Prog (TpuEff nD τ sig (Elt F) Λ₀ .tc) α}
    {g : (S.Idx → Elt F e) → St F → St F} {r' : (S.Idx → Elt F e) → St F → α} (hk : ∀ v, HT c E B (k v) (g v) (r' v)) :
    HT (F := F) c E B (Prog.lift (.load m (Rect.unit (s := S) off S.size inb).toLoadRect hl) >>= k) (fun s => g (get s) s) (fun s => r' (get s) s) :=
  HT.bind (HT.loadW ha inb) hk

/-- one whose answer is not used, -/
theorem HT.skipB (ha : Acc c B m get set) (r : Rect S) {hl : m.view.LoadsAt r.toLoadRect} {k : (r.shape.Idx → Elt F e) → Prog (TpuEff nD τ sig (Elt F) Λ₀ .tc) α}
    {g : St F → St F} {r' : St F → α} (hk : ∀ v, HT c E B (k v) g r') :
    HT (F := F) c E B (Prog.lift (.load m r.toLoadRect hl) >>= k) g r' :=
  HT.bind (HT.load ha r) hk

/-- a store, -/
theorem HT.storeB (ha : Acc c B m get set) (r : Rect S) (w : r.shape.Idx → Elt F e) {hx : (m.access r).Stores Finset.univ}
    {hm : Finset.univ = Finset.univ ∨ ∀ a, r.stride a = 1} {k : PUnit → Prog (TpuEff nD τ sig (Elt F) Λ₀ .tc) α}
    {g : St F → St F} {r' : St F → α} (hk : HT c E B (k ⟨⟩) g r') :
    HT (F := F) c E B (Prog.lift (.store m r w Finset.univ hx hm) >>= k)
      (fun s => g (set s (r.overlay (get s) w))) (fun s => r' (set s (r.overlay (get s) w))) :=
  HT.bind (g := fun _ => g) (r' := fun _ => r') (HT.store ha r w) fun _ => hk

/-- and a store over the whole buffer. -/
theorem HT.storeWB (ha : Acc c B m get set) {off : Fin S.rank → Nat} (inb : ∀ a, off a + S.size a ≤ S.size a) (w : S.Idx → Elt F e)
    {hx : (m.access (Rect.unit (s := S) off S.size inb)).Stores Finset.univ}
    {hm : Finset.univ = Finset.univ ∨ ∀ a, (Rect.unit (s := S) off S.size inb).stride a = 1} {k : PUnit → Prog (TpuEff nD τ sig (Elt F) Λ₀ .tc) α}
    {g : St F → St F} {r' : St F → α} (hk : HT c E B (k ⟨⟩) g r') :
    HT (F := F) c E B (Prog.lift (.store m (Rect.unit (s := S) off S.size inb) w Finset.univ hx hm) >>= k)
      (fun s => g (set s w)) (fun s => r' (set s w)) :=
  HT.bind (g := fun _ => g) (r' := fun _ => r') (HT.storeW ha inb w) fun _ => hk

end Rules

/-- The first of a chain taken out, -/
theorem out_head {X : Type} {A : X → sProp 𝕄} {R : sProp 𝕄} (x : X) :
    iprop(A x ∗ R) ⊢ iprop(A x ∗ (∀ v, A v -∗ A v ∗ R)) := by
  iintro ⟨H, HR⟩
  isplitl [H]; · iexact H
  iintro %v Hv
  isplitl [Hv]; · iexact Hv
  iexact HR

/-- or one further on, -/
theorem out_tail {X : Type} {A P M : sProp 𝕄} {N P' : X → sProp 𝕄} (h : P ⊢ iprop(M ∗ (∀ v, N v -∗ P' v))) :
    iprop(A ∗ P) ⊢ iprop(M ∗ (∀ v, N v -∗ A ∗ P' v)) := by
  iintro ⟨HA, HP⟩
  ihave H := h $$ HP
  icases H with ⟨HM, Hb⟩
  isplitl [HM]; · iexact HM
  iintro %v Hv
  isplitl [HA]; · iexact HA
  iapply Hb $$ Hv

/-- or the last. -/
theorem out_last {X : Type} {A : X → sProp 𝕄} (x : X) : A x ⊢ iprop(A x ∗ (∀ v, A v -∗ A v)) := by
  iintro H
  isplitl [H]; · iexact H
  iintro %v Hv
  iexact Hv

variable {c B}

theorem acc_x0 (F : FTy → Type) [FloatOps F] : Acc (F := F) c B B.b0 (·.x0) (fun s v => { s with x0 := v }) :=
  ⟨fun _ => rfl, fun s => out_head (A := fun v => owns (c : Thread nD τ) B.b0 fullShare v) s.x0⟩

theorem acc_x1 (F : FTy → Type) [FloatOps F] : Acc (F := F) c B B.b1 (·.x1) (fun s v => { s with x1 := v }) :=
  ⟨fun _ => rfl, fun s => out_tail (out_head (A := fun v => owns (c : Thread nD τ) B.b1 fullShare v) s.x1)⟩

theorem acc_x2 (F : FTy → Type) [FloatOps F] : Acc (F := F) c B B.b2 (·.x2) (fun s v => { s with x2 := v }) :=
  ⟨fun _ => rfl, fun s => out_tail (out_tail (out_head (A := fun v => owns (c : Thread nD τ) B.b2 fullShare v) s.x2))⟩

theorem acc_sim (F : FTy → Type) [FloatOps F] : Acc (F := F) c B B.b3 (·.sim) (fun s v => { s with sim := v }) :=
  ⟨fun _ => rfl, fun s => out_tail (out_tail (out_tail (out_head (A := fun v => owns (c : Thread nD τ) B.b3 fullShare v) s.sim)))⟩

theorem acc_acc (F : FTy → Type) [FloatOps F] : Acc (F := F) c B B.b4 (·.acc) (fun s v => { s with acc := v }) :=
  ⟨fun _ => rfl, fun s => out_tail (out_tail (out_tail (out_tail (out_head (A := fun v => owns (c : Thread nD τ) B.b4 fullShare v) s.acc))))⟩

theorem acc_zn (F : FTy → Type) [FloatOps F] : Acc (F := F) c B B.b5 (·.zn) (fun s v => { s with zn := v }) :=
  ⟨fun _ => rfl, fun s => out_tail (out_tail (out_tail (out_tail (out_tail (out_head (A := fun v => owns (c : Thread nD τ) B.b5 fullShare v) s.zn)))))⟩

theorem acc_yn (F : FTy → Type) [FloatOps F] : Acc (F := F) c B B.b6 (·.yn) (fun s v => { s with yn := v }) :=
  ⟨fun _ => rfl, fun s => out_tail (out_tail (out_tail (out_tail (out_tail (out_tail (out_head (A := fun v => owns (c : Thread nD τ) B.b6 fullShare v) s.yn))))))⟩

theorem acc_dg (F : FTy → Type) [FloatOps F] : Acc (F := F) c B B.b7 (·.dg) (fun s v => { s with dg := v }) :=
  ⟨fun _ => rfl, fun s => out_tail (out_tail (out_tail (out_tail (out_tail (out_tail (out_tail (out_head (A := fun v => owns (c : Thread nD τ) B.b7 fullShare v) s.dg)))))))⟩

theorem acc_cn (F : FTy → Type) [FloatOps F] : Acc (F := F) c B B.b8 (·.cn) (fun s v => { s with cn := v }) :=
  ⟨fun _ => rfl, fun s => out_tail (out_tail (out_tail (out_tail (out_tail (out_tail (out_tail (out_tail (out_last (A := fun v => owns (c : Thread nD τ) B.b8 fullShare v) s.cn))))))))⟩

end Cert.Body

end
-- ==== Proof.Body.lean ====
/- The kernel's body at one grid point, as a transition of the record of its buffers. -/
module

public import proofs.«01_k».proof.Proof.Triples

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords)

/-- The first grid coordinate as the body's word, -/
abbrev w0 : BitVec 32 := BitVec.ofNat 32 (i 0).val
/-- and the second. -/
abbrev w1 : BitVec 32 := BitVec.ofNat 32 (i 1).val

/-- The body's conditions the skeleton writes in line. -/
abbrev c1 : Prop := Scalar.cmpi .ne (Scalar.extui (Scalar.andi (Scalar.cmpi .eq (w0 i) 0#32) (Scalar.cmpi .eq (w1 i) 0#32)) : BitVec 32) 0#32 = 1#1
abbrev c4 : Prop := Scalar.cmpi .ne (Scalar.extui (Scalar.cmpi .eq (w1 i) 0#32) : BitVec 32) 0#32 = 1#1
abbrev c5 : Prop := Scalar.cmpi .ne (Scalar.extui (Scalar.cmpi .sgt (w1 i) 0#32) : BitVec 32) 0#32 = 1#1
abbrev c6 : Prop := Scalar.cmpi .ne (Scalar.extui (Scalar.cmpi .slt (Scalar.addi (w0 i) (w1 i)) 4#32) : BitVec 32) 0#32 = 1#1
abbrev c7 : Prop := Scalar.cmpi .ne (Scalar.extui (Scalar.cmpi .sge (Scalar.addi (w0 i) (w1 i)) 4#32) : BitVec 32) 0#32 = 1#1

/-- The rectangles the body goes through. -/
abbrev rZ0 : Rect S4096x1024 := Rect.unit (s := S4096x1024) ![0, 0] S1024x1024.size inb_S4096x1024_S1024x1024_0_0
abbrev rY0 : Rect S2048x1024 := Rect.unit (s := S2048x1024) ![0, 0] S1024x1024.size inb_S2048x1024_S1024x1024_0_0
abbrev rZ1 (h : k0_cond2 i = 1#1) : Rect S4096x1024 := Rect.unit (s := S4096x1024) (k0_off1 i) S1024x1024.size (k0_off1_inb i h)
abbrev rY1 (h : k0_cond3 i = 1#1) : Rect S2048x1024 := Rect.unit (s := S2048x1024) (k0_off2 i) S1024x1024.size (k0_off2_inb i h)
abbrev rYr : Rect S2048x1024 := Rect.unit (s := S2048x1024) (k0_off3 i) S1024x1024.size (k0_off3_inb i)
abbrev rZr : Rect S4096x1024 := Rect.unit (s := S4096x1024) (k0_off4 i) S1024x1024.size (k0_off4_inb i)

/-- The first block of each operand normalised into the scratches, at the first point. -/
def stA (s : St F) : St F :=
  if h : c1 i then { s with zn := rZ0.overlay s.zn (k0_pay5 s.x1), yn := rY0.overlay s.yn (k0_pay6 s.x0) } else s
/-- The next block of `Z` normalised. -/
def stB (s : St F) : St F :=
  if h : k0_cond2 i = 1#1 then { s with zn := (rZ1 i h).overlay s.zn (k0_pay7 s.x2) } else s
/-- The next block of `Y` normalised. -/
def stC (s : St F) : St F :=
  if h : k0_cond3 i = 1#1 then { s with yn := (rY1 i h).overlay s.yn (k0_pay8 s.x0) } else s
/-- The block of `Y`, and of `Z`, the products are taken of. -/
def ldY (s : St F) : FVec F S1024x1024 .bf16 := fun x => s.yn ((rYr i).emb x)
def ldZ (s : St F) : FVec F S1024x1024 .bf16 := fun x => s.zn ((rZr i).emb x)
/-- The block of products written, -/
def stD (s : St F) : St F := { s with sim := k0_pay9 (ldY i s) (ldZ i s) }
/-- and on a diagonal block, the diagonal and the first counts. -/
def stE (a b : FVec F S1024x1024 .bf16) (s : St F) : St F :=
  if h : c4 i then { s with dg := k0_pay11 a b, cn := k0_pay12 a b } else s
/-- The counts of a block off the diagonal: to the right of it, strictly, -/
def stF6 (v : FVec F S1024x1024 .f32) (d : FVec F S1024x1 .f32) (s : St F) : St F :=
  if h : c6 i then { s with cn := k0_pay1 v d s.cn } else s
/-- and to the left of it, ties as well. -/
def stF7 (v : FVec F S1024x1024 .f32) (d : FVec F S1024x1 .f32) (s : St F) : St F :=
  if h : c7 i then { s with cn := k0_pay2 v d s.cn } else s
def stF (v : FVec F S1024x1024 .f32) (s : St F) : St F :=
  if h : c5 i then stF7 i v s.dg (stF6 i v s.dg s) else s
/-- The hits of a finished row of blocks put into the second output, -/
def stG (s : St F) : St F :=
  if h : k0_cond9 i = 1#1 then { s with acc := k0_pay4 s.cn } else s
/-- or added to it. -/
def stH (a : FVec F S8x128 .f32) (s : St F) : St F :=
  if h : k0_cond10 i = 1#1 then { s with acc := k0_pay3 a s.acc } else s
def stI (s : St F) : St F :=
  if h : k0_cond8 i = 1#1 then stH i (k0_pay4 s.cn) (stG i s) else s

variable {i} {c : Dev nD} {E : Set ℕ} {B : Bufs}
variable {g0 : B.b0.IsWhole} {g1 : B.b1.IsWhole} {g2 : B.b2.IsWhole} {g3 : B.b3.IsWhole} {g4 : B.b4.IsWhole}
  {g5 : B.b5.IsWhole} {g6 : B.b6.IsWhole} {g7 : B.b7.IsWhole} {g8 : B.b8.IsWhole}

theorem HT_part1 : HT (F := F) c E B (k0_part1 i B.b0 g0 B.b1 g1 B.b2 g2 B.b3 g3 B.b4 g4 B.b5 g5 B.b6 g6 B.b7 g7 B.b8 g8 (w0 i))
    (stG i) (fun s => ⟨k0_pay4 s.cn, Scalar.extui (Scalar.cmpi .sgt (w0 i) 0#32)⟩) := by
  rw [k0_part1_eq_skeleton]
  unfold k0_part1_skel
  refine HT.conv (HT.loadWB (acc_cn F) _
    (g := fun v s => if h : k0_cond9 i = 1#1 then { s with acc := k0_pay4 v } else s)
    (r' := fun v _ => ⟨k0_pay4 v, Scalar.extui (Scalar.cmpi .sgt (w0 i) 0#32)⟩) fun v => ?_) (fun _ => rfl) (fun _ => rfl)
  extract_lets _ _ jp
  have hj : HT (F := F) c E B (jp ⟨⟩) id (fun _ => ⟨k0_pay4 v, Scalar.extui (Scalar.cmpi .sgt (w0 i) 0#32)⟩) := HT.pure _
  clear_value jp
  refine HT.conv (HT.iteThen (f := fun _ s => { s with acc := k0_pay4 v }) hj fun h => ?_) (fun _ => rfl) (fun _ => rfl)
  exact HT.skipB (acc_acc F) _ fun _ => HT.storeWB (acc_acc F) _ _ hj

/-- What the first part of the body answers: the grid coordinates, the block of products, and whether the block is off the
    diagonal. -/
abbrev Ans (F : FTy → Type) : Type := Σ' (_ : BitVec 32) (_ : BitVec 32) (_ : FVec F S1024x1024 .f32) (_ : BitVec 32), BitVec 32

/-- The products and the diagonal, from blocks in place. -/
def stP (i : grid0.Coords) (s : St F) : St F := stE i (ldY i s) (ldZ i s) (stD i s)
def ansP (i : grid0.Coords) (s : St F) : Ans F :=
  ⟨w0 i, w1 i, k0_pay9 (ldY i s) (ldZ i s), Scalar.extui (Scalar.cmpi .sgt (w1 i) 0#32), 0#32⟩

theorem HT_part2 : HT (F := F) c E B (k0_part2 i B.b0 g0 B.b1 g1 B.b2 g2 B.b3 g3 B.b4 g4 B.b5 g5 B.b6 g6 B.b7 g7 B.b8 g8)
    (fun s => stP i (stC i (stB i (stA i s)))) (fun s => ansP i (stC i (stB i (stA i s)))) := by
  rw [k0_part2_eq_skeleton]
  unfold k0_part2_skel
  extract_lets arg0 arg1 v2 v3 v4 v5 v6 v27 v28 v29 v30 jp3 jp2 jp1
  have h3 : HT (F := F) c E B (jp3 ⟨⟩) (fun s => stP i s) (fun s => ansP i s) := by
    dsimp -zeta -proj only [jp3]
    refine HT.conv (HT.loadB (acc_yn F) _ (g := fun a s => stE i a (ldZ i s) { s with sim := k0_pay9 a (ldZ i s) })
      (r' := fun a s => ⟨w0 i, w1 i, k0_pay9 a (ldZ i s), Scalar.extui (Scalar.cmpi .sgt (w1 i) 0#32), 0#32⟩) fun a => ?_) (fun _ => rfl) (fun _ => rfl)
    refine HT.conv (HT.loadB (acc_zn F) _ (g := fun b s => stE i a b { s with sim := k0_pay9 a b })
      (r' := fun b s => ⟨w0 i, w1 i, k0_pay9 a b, Scalar.extui (Scalar.cmpi .sgt (w1 i) 0#32), 0#32⟩) fun b => ?_) (fun _ => rfl) (fun _ => rfl)
    refine HT.skipB (acc_sim F) _ fun _ => ?_
    refine HT.conv (HT.storeWB (acc_sim F) _ _ (g := stE i a b)
      (r' := fun _ => (⟨w0 i, w1 i, k0_pay9 a b, Scalar.extui (Scalar.cmpi .sgt (w1 i) 0#32), 0#32⟩ : Ans F)) ?_) (fun _ => rfl) (fun _ => rfl)
    extract_lets jp4
    have h4 : HT (F := F) c E B (jp4 ⟨⟩) id (fun _ => ⟨w0 i, w1 i, k0_pay9 a b, Scalar.extui (Scalar.cmpi .sgt (w1 i) 0#32), 0#32⟩) := HT.pure _
    clear_value jp4
    refine HT.conv (HT.iteThen (f := fun _ s => { s with dg := k0_pay11 a b, cn := k0_pay12 a b }) h4 fun h => ?_) (fun _ => rfl) (fun _ => rfl)
    exact HT.skipB (acc_dg F) _ fun _ => HT.storeWB (acc_dg F) _ _ (g := fun s => { s with cn := k0_pay12 a b })
      (r' := fun _ => (⟨w0 i, w1 i, k0_pay9 a b, Scalar.extui (Scalar.cmpi .sgt (w1 i) 0#32), 0#32⟩ : Ans F)) (HT.skipB (acc_cn F) _ fun _ => HT.storeWB (acc_cn F) _ _ h4)
  have h2 : HT (F := F) c E B (jp2 ⟨⟩) (fun s => stP i (stC i s)) (fun s => ansP i (stC i s)) := by
    dsimp -zeta -proj only [jp2]
    clear_value jp3
    refine HT.conv (HT.iteThen (f := fun h s => { s with yn := (rY1 i h).overlay s.yn (k0_pay8 s.x0) }) h3 fun h => ?_) (fun _ => rfl) (fun _ => rfl)
    refine HT.conv (HT.loadWB (acc_x0 F) _ (g := fun v s => stP i { s with yn := (rY1 i h).overlay s.yn (k0_pay8 v) })
      (r' := fun v s => ansP i { s with yn := (rY1 i h).overlay s.yn (k0_pay8 v) }) fun v => ?_) (fun _ => rfl) (fun _ => rfl)
    exact HT.conv (HT.skipB (acc_yn F) _ fun _ => HT.storeB (acc_yn F) _ _ h3) (fun _ => rfl) (fun _ => rfl)
  have h1 : HT (F := F) c E B (jp1 ⟨⟩) (fun s => stP i (stC i (stB i s))) (fun s => ansP i (stC i (stB i s))) := by
    dsimp -zeta -proj only [jp1]
    clear_value jp2
    refine HT.conv (HT.iteThen (f := fun h s => { s with zn := (rZ1 i h).overlay s.zn (k0_pay7 s.x2) }) h2 fun h => ?_) (fun _ => rfl) (fun _ => rfl)
    refine HT.conv (HT.loadWB (acc_x2 F) _ (g := fun v s => stP i (stC i { s with zn := (rZ1 i h).overlay s.zn (k0_pay7 v) }))
      (r' := fun v s => ansP i (stC i { s with zn := (rZ1 i h).overlay s.zn (k0_pay7 v) })) fun v => ?_) (fun _ => rfl) (fun _ => rfl)
    exact HT.conv (HT.skipB (acc_zn F) _ fun _ => HT.storeB (acc_zn F) _ _ h2) (fun _ => rfl) (fun _ => rfl)
  clear_value jp1
  refine HT.conv (HT.iteThen (f := fun h s => { s with zn := rZ0.overlay s.zn (k0_pay5 s.x1), yn := rY0.overlay s.yn (k0_pay6 s.x0) }) h1 fun h => ?_) (fun _ => rfl) (fun _ => rfl)
  refine HT.conv (HT.loadWB (acc_x1 F) _
    (g := fun v s => stP i (stC i (stB i { s with zn := rZ0.overlay s.zn (k0_pay5 v), yn := rY0.overlay s.yn (k0_pay6 s.x0) })))
    (r' := fun v s => ansP i (stC i (stB i { s with zn := rZ0.overlay s.zn (k0_pay5 v), yn := rY0.overlay s.yn (k0_pay6 s.x0) }))) fun v => ?_)
    (fun _ => rfl) (fun _ => rfl)
  refine HT.skipB (acc_zn F) _ fun _ => ?_
  refine HT.conv (HT.storeB (acc_zn F) _ _
    (g := fun s => stP i (stC i (stB i { s with yn := rY0.overlay s.yn (k0_pay6 s.x0) })))
    (r' := fun s => ansP i (stC i (stB i { s with yn := rY0.overlay s.yn (k0_pay6 s.x0) }))) ?_) (fun _ => rfl) (fun _ => rfl)
  refine HT.conv (HT.loadWB (acc_x0 F) _
    (g := fun w s => stP i (stC i (stB i { s with yn := rY0.overlay s.yn (k0_pay6 w) })))
    (r' := fun w s => ansP i (stC i (stB i { s with yn := rY0.overlay s.yn (k0_pay6 w) }))) fun w => ?_)
    (fun _ => rfl) (fun _ => rfl)
  exact HT.conv (HT.skipB (acc_yn F) _ fun _ => HT.storeB (acc_yn F) _ _ h1) (fun _ => rfl) (fun _ => rfl)

/-- The whole body at a point. -/
def step (i : grid0.Coords) (s : St F) : St F :=
  stI i (stF i (ansP i (stC i (stB i (stA i s)))).2.2.1 (stP i (stC i (stB i (stA i s)))))

theorem HT_body : HT (F := F) c E B (cc0__sim_kernel i B.b0 g0 B.b1 g1 B.b2 g2 B.b3 g3 B.b4 g4 B.b5 g5 B.b6 g6 B.b7 g7 B.b8 g8)
    (step i) (fun _ => ⟨⟩) := by
  rw [cc0__sim_kernel_eq_skeleton]
  unfold cc0__sim_kernel_skel
  refine HT.bindS (HT_part2 (F := F)) (g := fun s t => stI i (stF i (ansP i (stC i (stB i (stA i s)))).2.2.1 t)) (r' := fun _ _ => PUnit.unit) fun s => ?_
  generalize stC i (stB i (stA i s)) = t
  dsimp -zeta -proj only [ansP]
  generalize k0_pay9 (ldY i t) (ldZ i t) = v
  extract_lets v31 jp1 jp2 jp3 v36 v37 v38 v39 v41 v42 v43 jp4
  have h1 : HT (F := F) c E B (jp1 ⟨⟩) id (fun _ => PUnit.unit) := HT.pure _
  have h2 : HT (F := F) c E B (jp2 ⟨⟩) id (fun _ => PUnit.unit) := h1
  have h3 : HT (F := F) c E B (jp3 ⟨⟩) (stI i) (fun _ => PUnit.unit) := by
    dsimp -zeta -proj only [jp3]
    clear_value jp1 jp2
    refine HT.conv (HT.iteThen (f := fun _ s => stH i (k0_pay4 s.cn) (stG i s)) h1 fun h => ?_) (fun _ => rfl) (fun _ => rfl)
    refine HT.conv (HT.bind (HT_part1 (F := F)) (g := fun a => stH i a.1) (r' := fun _ _ => PUnit.unit) fun a => ?_) (fun _ => rfl) (fun _ => rfl)
    refine HT.conv (HT.iteThen (f := fun _ s => { s with acc := k0_pay3 a.1 s.acc }) h2 fun h => ?_) (fun _ => rfl) (fun _ => rfl)
    refine HT.conv (HT.loadWB (acc_acc F) _ (g := fun v s => { s with acc := k0_pay3 a.1 v }) (r' := fun _ _ => PUnit.unit) fun v => ?_) (fun _ => rfl) (fun _ => rfl)
    exact HT.skipB (acc_acc F) _ fun _ => HT.conv (HT.storeWB (acc_acc F) _ _ h2) (fun _ => rfl) (fun _ => rfl)
  have h4 : HT (F := F) c E B (jp4 ⟨⟩) (stI i) (fun _ => PUnit.unit) := h3
  clear_value jp4 jp3
  refine HT.conv (HT.iteThen (P := c5 i) (f := fun _ s => stF7 i v s.dg (stF6 i v s.dg s)) h3 fun h => ?_) (fun s => ?_) (fun _ => ?_)
  rotate_left
  · rfl
  · rfl
  refine HT.conv (HT.loadWB (acc_dg F) _ (g := fun d s => stI i (stF7 i v d (stF6 i v d s))) (r' := fun _ _ => PUnit.unit) fun d => ?_) (fun _ => ?_) (fun _ => ?_)
  rotate_left
  · rfl
  · rfl
  extract_lets jp5
  have h5 : HT (F := F) c E B (jp5 ⟨⟩) (fun t => stI i (stF7 i v d t)) (fun _ => PUnit.unit) := by
    dsimp -zeta -proj only [jp5]
    refine HT.conv (HT.iteThen (P := c7 i) (f := fun _ t => { t with cn := k0_pay2 v d t.cn }) h4 fun h => ?_) (fun _ => rfl) (fun _ => rfl)
    refine HT.conv (HT.loadWB (acc_cn F) _ (g := fun n s => stI i { s with cn := k0_pay2 v d n }) (r' := fun _ _ => PUnit.unit) fun n => ?_) (fun _ => rfl) (fun _ => rfl)
    exact HT.skipB (acc_cn F) _ fun _ => HT.conv (HT.storeWB (acc_cn F) _ _ h4) (fun _ => rfl) (fun _ => rfl)
  clear_value jp5
  refine HT.conv (HT.iteThen (P := c6 i) (f := fun _ t => { t with cn := k0_pay1 v d t.cn }) h5 fun h => ?_) (fun _ => rfl) (fun _ => rfl)
  refine HT.conv (HT.loadWB (acc_cn F) _ (g := fun n s => stI i (stF7 i v d { s with cn := k0_pay1 v d n })) (r' := fun _ _ => PUnit.unit) fun n => ?_) (fun _ => rfl) (fun _ => rfl)
  exact HT.skipB (acc_cn F) _ fun _ => HT.conv (HT.storeWB (acc_cn F) _ _ h5) (fun _ => rfl) (fun _ => rfl)

end Cert.Body

end
-- ==== Proof.Inv.lean ====
/- What the scratches hold between grid points, and that one point of the body keeps it. -/
module

public import proofs.«01_k».proof.Proof.Body
public import Idealize.ShloMosaic.Lib.ValueIdxCore
public import Idealize.ShloMosaic.Lib.Pipeline.ValueKit.Geometry

@[expose] public section

set_option maxRecDepth 16384

noncomputable section

namespace Cert.Body

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## A row of blocks in a tall buffer -/

/-- The place in a buffer of `M` rows of the entry `x` of its `k`-th block of 1024 rows. -/
def bix {M : ℕ} (hM : 0 < M) (k : ℕ) (x : S1024x1024.Idx) : (⟨2, ![M, 1024]⟩ : Shape).Idx :=
  ix2 ⟨(1024 * k + (x 0).val) % M, Nat.mod_lt _ hM⟩ ⟨(x 1).val, (x 1).isLt⟩

/-- The `k`-th block of 1024 rows. -/
def blkOf {M : ℕ} (hM : 0 < M) {α : Type} (z : (⟨2, ![M, 1024]⟩ : Shape).Idx → α) (k : ℕ) : S1024x1024.Idx → α :=
  fun x => z (bix hM k x)

theorem rect_emb_bix {M : ℕ} (hM : 0 < M) {off : Fin 2 → ℕ} {k : ℕ} (ho : off = ![1024 * k, 0]) (hk : 1024 * k + 1024 ≤ M)
    (inb) (x : S1024x1024.Idx) :
    (Rect.unit (s := (⟨2, ![M, 1024]⟩ : Shape)) off S1024x1024.size inb).emb x = bix hM k x := by
  have h0 : (x 0).val < 1024 := (x 0).isLt
  subst ho
  funext a
  match a with
  | ⟨0, _⟩ =>
    refine Fin.ext ((ValueKit.rect_emb_unit_val _ _ inb x 0).trans ?_)
    show 1024 * k + (x 0).val = (1024 * k + (x 0).val) % M
    rw [Nat.mod_eq_of_lt (by omega)]
  | ⟨1, _⟩ =>
    refine Fin.ext ((ValueKit.rect_emb_unit_val _ _ inb x 1).trans ?_)
    show 0 + (x 1).val = (x 1).val
    omega

theorem bix_not_mem {M : ℕ} (hM : 0 < M) {off : Fin 2 → ℕ} {k k' : ℕ} (ho : off = ![1024 * k, 0]) (hk' : 1024 * k' + 1024 ≤ M)
    (hne : k' ≠ k) (inb : ∀ a : Fin 2, off a + S1024x1024.size a ≤ (⟨2, ![M, 1024]⟩ : Shape).size a) (x : S1024x1024.Idx) :
    bix hM k' x ∉ (Rect.unit (s := (⟨2, ![M, 1024]⟩ : Shape)) off S1024x1024.size inb).set := by
  have h0 : (x 0).val < 1024 := (x 0).isLt
  subst ho
  rw [Rect.mem_set_unit]
  intro h
  have h := h 0
  have e : (bix hM k' x 0).val = 1024 * k' + (x 0).val := by
    show (1024 * k' + (x 0).val) % M = _
    rw [Nat.mod_eq_of_lt (by omega)]
  rw [e] at h
  have h1 : 1024 * k ≤ 1024 * k' + (x 0).val := h.1
  have h2 : 1024 * k' + (x 0).val < 1024 * k + 1024 := h.2
  omega

theorem blkOf_eq {M : ℕ} (hM : 0 < M) {α : Type} (z : (⟨2, ![M, 1024]⟩ : Shape).Idx → α) (k : ℕ) (w : S1024x1024.Idx → α)
    (h : ∀ x, z (bix hM k x) = w x) : blkOf hM z k = w := funext h

theorem overlay_at {s : Shape} {α : Type} (r : Rect s) (z : s.Idx → α) (w : r.shape.Idx → α) {y : s.Idx} {x : r.shape.Idx}
    (h : r.emb x = y) : r.overlay z w y = w x := by subst h; exact Rect.overlay_emb r z w x

/-- A block written over is the block written, -/
theorem blkOf_overlay_same {M : ℕ} (hM : 0 < M) {α : Type} {off : Fin 2 → ℕ} {k : ℕ} (ho : off = ![1024 * k, 0])
    (hk : 1024 * k + 1024 ≤ M) (inb : ∀ a : Fin 2, off a + S1024x1024.size a ≤ (⟨2, ![M, 1024]⟩ : Shape).size a)
    (z : (⟨2, ![M, 1024]⟩ : Shape).Idx → α) (w : S1024x1024.Idx → α) :
    blkOf hM ((Rect.unit (s := (⟨2, ![M, 1024]⟩ : Shape)) off S1024x1024.size inb).overlay z w) k = w := by
  apply blkOf_eq
  exact fun x => overlay_at (Rect.unit (s := (⟨2, ![M, 1024]⟩ : Shape)) off S1024x1024.size inb) z w (rect_emb_bix hM ho hk inb x)
/-- and the other blocks stay. -/
theorem blkOf_overlay_ne {M : ℕ} (hM : 0 < M) {α : Type} {off : Fin 2 → ℕ} {k k' : ℕ} (ho : off = ![1024 * k, 0])
    (hk' : 1024 * k' + 1024 ≤ M) (hne : k' ≠ k) (inb : ∀ a : Fin 2, off a + S1024x1024.size a ≤ (⟨2, ![M, 1024]⟩ : Shape).size a)
    (z : (⟨2, ![M, 1024]⟩ : Shape).Idx → α) (w : S1024x1024.Idx → α) :
    blkOf hM ((Rect.unit (s := (⟨2, ![M, 1024]⟩ : Shape)) off S1024x1024.size inb).overlay z w) k' = blkOf hM z k' := by
  apply blkOf_eq
  exact fun x => Rect.overlay_of_not_mem (Rect.unit (s := (⟨2, ![M, 1024]⟩ : Shape)) off S1024x1024.size inb) z w
    (bix_not_mem hM ho hk' hne inb x)

/-! ## The grid's conditions and offsets -/

theorem co0 : ∀ t : Fin grid0.N, (grid0.coords t 0).val = t.val / 4 := by decide +kernel
theorem co1 : ∀ t : Fin grid0.N, (grid0.coords t 1).val = t.val % 4 := by decide +kernel
theorem c1_iff : ∀ t : Fin grid0.N, c1 (grid0.coords t) ↔ t.val = 0 := by decide +kernel
theorem c2_iff : ∀ t : Fin grid0.N, k0_cond2 (grid0.coords t) = 1#1 ↔ t.val < 3 := by decide +kernel
theorem c3_iff : ∀ t : Fin grid0.N, k0_cond3 (grid0.coords t) = 1#1 ↔ t.val % 4 = 3 ∧ t.val < 15 := by decide +kernel
theorem c4_iff : ∀ t : Fin grid0.N, c4 (grid0.coords t) ↔ t.val % 4 = 0 := by decide +kernel
theorem c5_iff : ∀ t : Fin grid0.N, c5 (grid0.coords t) ↔ t.val % 4 ≠ 0 := by decide +kernel
theorem c6_iff : ∀ t : Fin grid0.N, c6 (grid0.coords t) ↔ t.val / 4 + t.val % 4 < 4 := by decide +kernel
theorem c7_iff : ∀ t : Fin grid0.N, c7 (grid0.coords t) ↔ ¬ t.val / 4 + t.val % 4 < 4 := by decide +kernel
theorem c8_iff : ∀ t : Fin grid0.N, k0_cond8 (grid0.coords t) = 1#1 ↔ t.val % 4 = 3 := by decide +kernel
theorem c9_iff : ∀ t : Fin grid0.N, k0_cond9 (grid0.coords t) = 1#1 ↔ t.val / 4 = 0 := by decide +kernel
theorem c10_iff : ∀ t : Fin grid0.N, k0_cond10 (grid0.coords t) = 1#1 ↔ t.val / 4 ≠ 0 := by decide +kernel
theorem off1_at : ∀ t : Fin grid0.N, k0_off1 (grid0.coords t) = ![1024 * (t.val % 4 + 1), 0] := by decide +kernel
theorem off2_at : ∀ t : Fin grid0.N, k0_off2 (grid0.coords t) = ![1024 * ((t.val / 4 + 1) % 2), 0] := by decide +kernel
theorem off3_at : ∀ t : Fin grid0.N, k0_off3 (grid0.coords t) = ![1024 * (t.val / 4 % 2), 0] := by decide +kernel
theorem off4_at : ∀ t : Fin grid0.N, k0_off4 (grid0.coords t) = ![1024 * ((t.val / 4 + t.val % 4) % 4), 0] := by decide +kernel

/-! ## The values -/

/-- The blocks of the two operands, by number. -/
structure Blocks (F : FTy → Type) where
  Z : ℕ → FVec F S1024x1024 .f32
  Y : ℕ → FVec F S1024x1024 .f32

variable (A : Blocks F)

/-- A block of an operand with its rows normalised, -/
def ZN (k : ℕ) : FVec F S1024x1024 .bf16 := k0_pay5 (A.Z k)
def YN (k : ℕ) : FVec F S1024x1024 .bf16 := k0_pay6 (A.Y k)
/-- a block of products, -/
def SIM (i k : ℕ) : FVec F S1024x1024 .f32 := k0_pay9 (YN A i) (ZN A k)
/-- the diagonal of a diagonal block, -/
def DG (i : ℕ) : FVec F S1024x1 .f32 := k0_pay11 (YN A i) (ZN A i)
/-- the counts after `j` blocks of a row of blocks, -/
def CN (i : ℕ) : ℕ → IVec S1024x128 32
  | 0 => fun _ => 0
  | 1 => k0_pay12 (YN A i) (ZN A i)
  | j + 2 => if i + (j + 1) < 4 then k0_pay1 (SIM A i ((i + (j + 1)) % 4)) (DG A i) (CN i (j + 1))
      else k0_pay2 (SIM A i ((i + (j + 1)) % 4)) (DG A i) (CN i (j + 1))
/-- and the hits after `i + 1` rows of blocks. -/
def ACC : ℕ → FVec F S8x128 .f32
  | 0 => k0_pay4 (CN A 0 4)
  | i + 1 => k0_pay3 (k0_pay4 (CN A (i + 1) 4)) (ACC i)

theorem hM4 : 0 < 4096 := by omega
theorem hM2 : 0 < 2048 := by omega

/-- What the scratches hold before the `n`-th point. -/
structure Inv (n : ℕ) (z : FVec F S4096x1024 .bf16) (y : FVec F S2048x1024 .bf16) (d : FVec F S1024x1 .f32)
    (q : IVec S1024x128 32) : Prop where
  hz : 1 ≤ n → ∀ k, k ≤ n → k < 4 → blkOf hM4 z k = ZN A k
  hy : 1 ≤ n → n < 16 → blkOf hM2 y (n / 4 % 2) = YN A (n / 4)
  hd : n % 4 ≠ 0 → d = DG A (n / 4)
  hq : n % 4 ≠ 0 → q = CN A (n / 4) (n % 4)

/-- The blocks of the operands staged at a point. -/
def i0 (n : ℕ) : ℕ := if n % 4 = 3 then (if n < 15 then n / 4 + 1 else 3) else n / 4
def i2 (n : ℕ) : ℕ := if n < 3 then n % 4 + 1 else 3

/-- The contents at a point's entry. -/
structure Entry (n : ℕ) (s : St F) : Prop where
  e0 : s.x0 = A.Y (i0 n)
  e1 : s.x1 = A.Z 0
  e2 : s.x2 = A.Z (i2 n)
  inv : Inv A n s.zn s.yn s.dg s.cn

theorem stA_z {t : Fin grid0.N} {s : St F} (h : Entry A t.val s) (k : ℕ) (hk : k < 4) (hkn : k ≤ t.val) :
    blkOf hM4 (stA (grid0.coords t) s).zn k = ZN A k := by
  unfold stA
  split
  · rename_i h1
    rw [c1_iff] at h1
    obtain rfl : k = 0 := by omega
    refine (blkOf_overlay_same hM4 (k := 0) rfl (by omega) _ _ _).trans ?_
    rw [h.e1]; rfl
  · rename_i h1
    rw [c1_iff] at h1
    exact h.inv.hz (by omega) k hkn hk

theorem stA_y {t : Fin grid0.N} {s : St F} (h : Entry A t.val s) :
    blkOf hM2 (stA (grid0.coords t) s).yn (t.val / 4 % 2) = YN A (t.val / 4) := by
  have ht : t.val < 16 := t.isLt
  unfold stA
  split
  · rename_i h1
    rw [c1_iff] at h1
    rw [h1]
    refine (blkOf_overlay_same hM2 (k := 0) rfl (by omega) _ _ _).trans ?_
    rw [h.e0, h1]; rfl
  · rename_i h1
    rw [c1_iff] at h1
    exact h.inv.hy (by omega) ht

/-- The scratches once the point's blocks are normalised. -/
def stN (i : grid0.Coords) (s : St F) : St F := stC i (stB i (stA i s))

theorem stA_rest (i : grid0.Coords) (s : St F) : (stA i s).x0 = s.x0 ∧ (stA i s).x1 = s.x1 ∧ (stA i s).x2 = s.x2 ∧
    (stA i s).dg = s.dg ∧ (stA i s).cn = s.cn ∧ (stA i s).acc = s.acc := by
  unfold stA; split <;> exact ⟨rfl, rfl, rfl, rfl, rfl, rfl⟩
theorem stB_rest (i : grid0.Coords) (s : St F) : (stB i s).x0 = s.x0 ∧ (stB i s).x1 = s.x1 ∧ (stB i s).x2 = s.x2 ∧
    (stB i s).dg = s.dg ∧ (stB i s).cn = s.cn ∧ (stB i s).acc = s.acc ∧ (stB i s).yn = s.yn := by
  unfold stB; split <;> exact ⟨rfl, rfl, rfl, rfl, rfl, rfl, rfl⟩
theorem stC_rest (i : grid0.Coords) (s : St F) : (stC i s).x0 = s.x0 ∧ (stC i s).x1 = s.x1 ∧ (stC i s).x2 = s.x2 ∧
    (stC i s).dg = s.dg ∧ (stC i s).cn = s.cn ∧ (stC i s).acc = s.acc ∧ (stC i s).zn = s.zn := by
  unfold stC; split <;> exact ⟨rfl, rfl, rfl, rfl, rfl, rfl, rfl⟩
theorem stN_rest (i : grid0.Coords) (s : St F) : (stN i s).x0 = s.x0 ∧ (stN i s).x1 = s.x1 ∧ (stN i s).x2 = s.x2 ∧
    (stN i s).dg = s.dg ∧ (stN i s).cn = s.cn ∧ (stN i s).acc = s.acc := by
  obtain ⟨a0, a1, a2, a3, a4, a5⟩ := stA_rest i s
  obtain ⟨b0, b1, b2, b3, b4, b5, _⟩ := stB_rest i (stA i s)
  obtain ⟨d0, d1, d2, d3, d4, d5, _⟩ := stC_rest i (stB i (stA i s))
  exact ⟨d0.trans (b0.trans a0), d1.trans (b1.trans a1), d2.trans (b2.trans a2), d3.trans (b3.trans a3), d4.trans (b4.trans a4),
    d5.trans (b5.trans a5)⟩

section
attribute [local irreducible] Rect.overlay blkOf

theorem stB_same {t : Fin grid0.N} (h : t.val < 3) (u : St F) :
    blkOf hM4 (stB (grid0.coords t) u).zn (t.val % 4 + 1) = k0_pay7 u.x2 := by
  have h2 := (c2_iff t).2 h
  have e : stB (grid0.coords t) u = { u with zn := (rZ1 _ h2).overlay u.zn (k0_pay7 u.x2) } := dif_pos h2
  rw [e]
  have g := blkOf_overlay_same (α := Elt F EltTy.bf16) hM4 (off1_at t) (by omega) (k0_off1_inb _ h2) u.zn (k0_pay7 u.x2)
  exact g
theorem stB_ne {t : Fin grid0.N} (h : t.val < 3) (u : St F) (k : ℕ) (hk : k < 4) (hne : k ≠ t.val % 4 + 1) :
    blkOf hM4 (stB (grid0.coords t) u).zn k = blkOf hM4 u.zn k := by
  have h2 := (c2_iff t).2 h
  have e : stB (grid0.coords t) u = { u with zn := (rZ1 _ h2).overlay u.zn (k0_pay7 u.x2) } := dif_pos h2
  rw [e]
  exact blkOf_overlay_ne hM4 (off1_at t) (by omega) hne (k0_off1_inb _ h2) u.zn (k0_pay7 u.x2)
theorem stB_skip {t : Fin grid0.N} (h : ¬ t.val < 3) (u : St F) : stB (grid0.coords t) u = u :=
  dif_neg fun e => h ((c2_iff t).1 e)
theorem stC_same {t : Fin grid0.N} (h : t.val % 4 = 3 ∧ t.val < 15) (u : St F) :
    blkOf hM2 (stC (grid0.coords t) u).yn ((t.val / 4 + 1) % 2) = k0_pay8 u.x0 := by
  have h2 := (c3_iff t).2 h
  have e : stC (grid0.coords t) u = { u with yn := (rY1 _ h2).overlay u.yn (k0_pay8 u.x0) } := dif_pos h2
  rw [e]
  have g := blkOf_overlay_same (α := Elt F EltTy.bf16) hM2 (off2_at t) (by omega) (k0_off2_inb _ h2) u.yn (k0_pay8 u.x0)
  exact g
theorem stC_ne {t : Fin grid0.N} (h : t.val % 4 = 3 ∧ t.val < 15) (u : St F) :
    blkOf hM2 (stC (grid0.coords t) u).yn (t.val / 4 % 2) = blkOf hM2 u.yn (t.val / 4 % 2) := by
  have h2 := (c3_iff t).2 h
  have e : stC (grid0.coords t) u = { u with yn := (rY1 _ h2).overlay u.yn (k0_pay8 u.x0) } := dif_pos h2
  rw [e]
  exact blkOf_overlay_ne hM2 (off2_at t) (by omega) (by omega) (k0_off2_inb _ h2) u.yn (k0_pay8 u.x0)
theorem stC_skip {t : Fin grid0.N} (h : ¬ (t.val % 4 = 3 ∧ t.val < 15)) (u : St F) : stC (grid0.coords t) u = u :=
  dif_neg fun e => h ((c3_iff t).1 e)

end

theorem stN_z {t : Fin grid0.N} {s : St F} (h : Entry A t.val s) (k : ℕ) (hk : k < 4) (hkn : k ≤ t.val + 1) :
    blkOf hM4 (stN (grid0.coords t) s).zn k = ZN A k := by
  have ht : t.val < 16 := t.isLt
  unfold stN
  rw [(stC_rest _ _).2.2.2.2.2.2]
  by_cases h3 : t.val < 3
  · by_cases e : k = t.val % 4 + 1
    · rw [e, stB_same h3, (stA_rest _ _).2.2.1, h.e2]
      have : i2 t.val = t.val % 4 + 1 := if_pos h3
      rw [this]; rfl
    · rw [stB_ne h3 _ k hk e]
      exact stA_z A h k hk (by omega)
  · rw [stB_skip h3]
    exact stA_z A h k hk (by omega)

theorem stN_y {t : Fin grid0.N} {s : St F} (h : Entry A t.val s) :
    blkOf hM2 (stN (grid0.coords t) s).yn (t.val / 4 % 2) = YN A (t.val / 4) := by
  unfold stN
  by_cases h3 : t.val % 4 = 3 ∧ t.val < 15
  · rw [stC_ne h3, (stB_rest _ _).2.2.2.2.2.2]
    exact stA_y A h
  · rw [stC_skip h3, (stB_rest _ _).2.2.2.2.2.2]
    exact stA_y A h

theorem stN_y' {t : Fin grid0.N} {s : St F} (h : Entry A t.val s) (h3 : t.val % 4 = 3) (hl : t.val < 15) :
    blkOf hM2 (stN (grid0.coords t) s).yn ((t.val / 4 + 1) % 2) = YN A (t.val / 4 + 1) := by
  unfold stN
  rw [stC_same ⟨h3, hl⟩, (stB_rest _ _).1, (stA_rest _ _).1, h.e0]
  have : i0 t.val = t.val / 4 + 1 := by unfold i0; rw [if_pos h3, if_pos hl]
  rw [this]; rfl

theorem stN_ldY {t : Fin grid0.N} {s : St F} (h : Entry A t.val s) : ldY (grid0.coords t) (stN (grid0.coords t) s) = YN A (t.val / 4) := by
  rw [← stN_y A h]
  funext x
  exact congrArg (stN (grid0.coords t) s).yn (rect_emb_bix hM2 (off3_at t) (by omega) _ x)
theorem stN_ldZ {t : Fin grid0.N} {s : St F} (h : Entry A t.val s) :
    ldZ (grid0.coords t) (stN (grid0.coords t) s) = ZN A ((t.val / 4 + t.val % 4) % 4) := by
  have ht : t.val < 16 := t.isLt
  have h1 : t.val / 4 + t.val % 4 ≤ t.val := by omega
  have h2 := Nat.mod_le (t.val / 4 + t.val % 4) 4
  rw [← stN_z A h _ (Nat.mod_lt _ (by omega)) (by omega)]
  funext x
  exact congrArg (stN (grid0.coords t) s).zn (rect_emb_bix hM4 (off4_at t) (by omega) _ x)

/-- The point after the blocks are normalised. -/
def stR (i : grid0.Coords) (s : St F) : St F := stI i (stF i (k0_pay9 (ldY i s) (ldZ i s)) (stP i s))
theorem step_eq (i : grid0.Coords) (s : St F) : step i s = stR i (stN i s) := rfl

theorem stI_rest (i : grid0.Coords) (s : St F) : (stI i s).x0 = s.x0 ∧ (stI i s).x1 = s.x1 ∧ (stI i s).x2 = s.x2 ∧ (stI i s).sim = s.sim ∧
    (stI i s).zn = s.zn ∧ (stI i s).yn = s.yn ∧ (stI i s).dg = s.dg ∧ (stI i s).cn = s.cn := by
  unfold stI stH stG; split
  · split <;> split <;> exact ⟨rfl, rfl, rfl, rfl, rfl, rfl, rfl, rfl⟩
  · exact ⟨rfl, rfl, rfl, rfl, rfl, rfl, rfl, rfl⟩
theorem stF_rest (i : grid0.Coords) (v : FVec F S1024x1024 .f32) (s : St F) : (stF i v s).x0 = s.x0 ∧ (stF i v s).x1 = s.x1 ∧ (stF i v s).x2 = s.x2 ∧ (stF i v s).sim = s.sim ∧
    (stF i v s).zn = s.zn ∧ (stF i v s).yn = s.yn ∧ (stF i v s).dg = s.dg ∧ (stF i v s).acc = s.acc := by
  unfold stF stF7 stF6; split
  · split <;> split <;> exact ⟨rfl, rfl, rfl, rfl, rfl, rfl, rfl, rfl⟩
  · exact ⟨rfl, rfl, rfl, rfl, rfl, rfl, rfl, rfl⟩
theorem stP_rest (i : grid0.Coords) (s : St F) : (stP i s).x0 = s.x0 ∧ (stP i s).x1 = s.x1 ∧ (stP i s).x2 = s.x2 ∧ (stP i s).sim = k0_pay9 (ldY i s) (ldZ i s) ∧
    (stP i s).zn = s.zn ∧ (stP i s).yn = s.yn ∧ (stP i s).acc = s.acc := by
  unfold stP stE stD; split <;> exact ⟨rfl, rfl, rfl, rfl, rfl, rfl, rfl⟩

/-- Everything but the counts, the diagonal and the hits, after a point. -/
theorem step_rest (i : grid0.Coords) (s : St F) : (step i s).x0 = s.x0 ∧ (step i s).x1 = s.x1 ∧ (step i s).x2 = s.x2 ∧
    (step i s).sim = k0_pay9 (ldY i (stN i s)) (ldZ i (stN i s)) ∧ (step i s).zn = (stN i s).zn ∧ (step i s).yn = (stN i s).yn := by
  obtain ⟨n0, n1, n2, _⟩ := stN_rest i s
  rw [step_eq]
  generalize stN i s = u at *
  unfold stR
  obtain ⟨p0, p1, p2, p3, p4, p5, _⟩ := stP_rest i u
  obtain ⟨f0, f1, f2, f3, f4, f5, _⟩ := stF_rest i (k0_pay9 (ldY i u) (ldZ i u)) (stP i u)
  obtain ⟨j0, j1, j2, j3, j4, j5, _⟩ := stI_rest i (stF i (k0_pay9 (ldY i u) (ldZ i u)) (stP i u))
  exact ⟨j0.trans (f0.trans (p0.trans n0)), j1.trans (f1.trans (p1.trans n1)), j2.trans (f2.trans (p2.trans n2)),
    j3.trans (f3.trans p3), j4.trans (f4.trans p4), j5.trans (f5.trans p5)⟩

theorem step_sim {t : Fin grid0.N} {s : St F} (h : Entry A t.val s) :
    (step (grid0.coords t) s).sim = SIM A (t.val / 4) ((t.val / 4 + t.val % 4) % 4) := by
  rw [(step_rest _ _).2.2.2.1, stN_ldY A h, stN_ldZ A h]; rfl

theorem stP_dg {t : Fin grid0.N} {s : St F} (h : Entry A t.val s) : (stP (grid0.coords t) (stN (grid0.coords t) s)).dg = DG A (t.val / 4) := by
  have ht : t.val < 16 := t.isLt
  unfold stP stE
  split
  · rename_i h4
    rw [c4_iff] at h4
    show k0_pay11 _ _ = _
    rw [stN_ldY A h, stN_ldZ A h, h4, Nat.add_zero, Nat.mod_eq_of_lt (by omega : t.val / 4 < 4)]; rfl
  · rename_i h4
    rw [c4_iff] at h4
    exact (stN_rest _ _).2.2.2.1.trans (h.inv.hd h4)

theorem step_dg {t : Fin grid0.N} {s : St F} (h : Entry A t.val s) : (step (grid0.coords t) s).dg = DG A (t.val / 4) := by
  rw [step_eq]; unfold stR
  rw [(stI_rest _ _).2.2.2.2.2.2.1, (stF_rest _ _ _).2.2.2.2.2.2.1]
  exact stP_dg A h

theorem stF_cn {t : Fin grid0.N} {s : St F} (h : Entry A t.val s) :
    (stF (grid0.coords t) (SIM A (t.val / 4) ((t.val / 4 + t.val % 4) % 4)) (stP (grid0.coords t) (stN (grid0.coords t) s))).cn
      = CN A (t.val / 4) (t.val % 4 + 1) := by
  have ht : t.val < 16 := t.isLt
  unfold stF
  split
  · rename_i h5
    have h5 := (c5_iff t).1 h5
    have hc : (stP (grid0.coords t) (stN (grid0.coords t) s)).cn = CN A (t.val / 4) (t.val % 4) := by
      unfold stP stE
      rw [dif_neg (fun e => h5 ((c4_iff t).1 e))]
      exact (stN_rest _ _).2.2.2.2.1.trans (h.inv.hq h5)
    rw [stP_dg A h]
    generalize stP (grid0.coords t) (stN (grid0.coords t) s) = u at hc
    obtain ⟨j, hj⟩ : ∃ j, t.val % 4 = j + 1 := ⟨t.val % 4 - 1, by omega⟩
    unfold stF7 stF6
    by_cases h6 : t.val / 4 + t.val % 4 < 4
    · rw [dif_neg (fun e => (c7_iff t).1 e h6), dif_pos ((c6_iff t).2 h6)]
      show k0_pay1 _ _ u.cn = _
      rw [hc, hj]
      rw [hj] at h6
      exact (if_pos h6).symm
    · rw [dif_pos ((c7_iff t).2 h6), dif_neg (fun e => h6 ((c6_iff t).1 e))]
      show k0_pay2 _ _ u.cn = _
      rw [hc, hj]
      rw [hj] at h6
      exact (if_neg h6).symm
  · rename_i h5
    have h4 : t.val % 4 = 0 := by
      by_contra e
      exact h5 ((c5_iff t).2 e)
    unfold stP stE
    rw [dif_pos ((c4_iff t).2 h4)]
    show k0_pay12 _ _ = _
    rw [stN_ldY A h, stN_ldZ A h, h4, Nat.add_zero, Nat.mod_eq_of_lt (by omega : t.val / 4 < 4)]; rfl

theorem stF_at {t : Fin grid0.N} {s : St F} (h : Entry A t.val s) :
    step (grid0.coords t) s = stI (grid0.coords t) (stF (grid0.coords t) (SIM A (t.val / 4) ((t.val / 4 + t.val % 4) % 4))
      (stP (grid0.coords t) (stN (grid0.coords t) s))) := by
  rw [step_eq]; unfold stR
  rw [stN_ldY A h, stN_ldZ A h]; rfl

theorem step_cn {t : Fin grid0.N} {s : St F} (h : Entry A t.val s) : (step (grid0.coords t) s).cn = CN A (t.val / 4) (t.val % 4 + 1) := by
  rw [stF_at A h, (stI_rest _ _).2.2.2.2.2.2.2]
  exact stF_cn A h

/-- The invariant is kept. -/
theorem step_inv {t : Fin grid0.N} {s : St F} (h : Entry A t.val s) :
    Inv A (t.val + 1) (step (grid0.coords t) s).zn (step (grid0.coords t) s).yn (step (grid0.coords t) s).dg (step (grid0.coords t) s).cn where
  hz _ k hk h4 := by
    rw [(step_rest _ _).2.2.2.2.1]
    exact stN_z A h k h4 hk
  hy _ hn := by
    rw [(step_rest _ _).2.2.2.2.2]
    by_cases h3 : t.val % 4 = 3
    · have e : (t.val + 1) / 4 = t.val / 4 + 1 := by omega
      rw [e]
      exact stN_y' A h h3 (by omega)
    · have e : (t.val + 1) / 4 = t.val / 4 := by omega
      rw [e]
      exact stN_y A h
  hd hn := by
    have e : (t.val + 1) / 4 = t.val / 4 := by omega
    rw [e]; exact step_dg A h
  hq hn := by
    have e : (t.val + 1) / 4 = t.val / 4 := by omega
    have e' : (t.val + 1) % 4 = t.val % 4 + 1 := by omega
    rw [e, e']; exact step_cn A h

/-- The hits stay inside a row of blocks, -/
theorem step_acc_idle {t : Fin grid0.N} {s : St F} (h3 : t.val % 4 ≠ 3) : (step (grid0.coords t) s).acc = s.acc := by
  rw [step_eq]; unfold stR stI
  rw [dif_neg (fun e => h3 ((c8_iff t).1 e)), (stF_rest _ _ _).2.2.2.2.2.2.2, (stP_rest _ _).2.2.2.2.2.2]
  exact (stN_rest _ _).2.2.2.2.2
/-- and take the row's at its end. -/
theorem step_acc {t : Fin grid0.N} {s : St F} (h : Entry A t.val s) (h3 : t.val % 4 = 3)
    (ha : t.val / 4 ≠ 0 → s.acc = ACC A (t.val / 4 - 1)) : (step (grid0.coords t) s).acc = ACC A (t.val / 4) := by
  rw [stF_at A h]
  have hc := stF_cn A h
  have hacc : (stF (grid0.coords t) (SIM A (t.val / 4) ((t.val / 4 + t.val % 4) % 4))
      (stP (grid0.coords t) (stN (grid0.coords t) s))).acc = s.acc := by
    rw [(stF_rest _ _ _).2.2.2.2.2.2.2, (stP_rest _ _).2.2.2.2.2.2]
    exact (stN_rest _ _).2.2.2.2.2
  generalize stF (grid0.coords t) (SIM A (t.val / 4) ((t.val / 4 + t.val % 4) % 4))
      (stP (grid0.coords t) (stN (grid0.coords t) s)) = u at *
  rw [h3] at hc
  unfold stI stH stG
  rw [dif_pos ((c8_iff t).2 h3)]
  by_cases h0 : t.val / 4 = 0
  · rw [dif_neg (fun e => (c10_iff t).1 e h0), dif_pos ((c9_iff t).2 h0)]
    show k0_pay4 u.cn = _
    rw [hc, h0]; rfl
  · rw [dif_pos ((c10_iff t).2 h0), dif_neg (fun e => h0 ((c9_iff t).1 e))]
    show k0_pay3 (k0_pay4 u.cn) u.acc = _
    rw [hc, hacc, ha h0]
    obtain ⟨j, hj⟩ : ∃ j, t.val / 4 = j + 1 := ⟨t.val / 4 - 1, by omega⟩
    rw [hj]; rfl

end Cert.Body

end
-- ==== Proof.Run.lean ====
/- The run of the kernel's program: what the pipeline's buffers hold point by point, the body at every point, the launch, and
   the frame. -/
module

public import proofs.«01_k».proof.Proof.Inv
public import proofs.«01_k».proof.Proof.Gen.KernelIdeal.Frame
public import Idealize.ShloMosaic.Lib.Claim

@[expose] public section

set_option maxRecDepth 16384

noncomputable section

namespace Cert.Body

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the inputs are staged by -/

/-- The blocks of the two operands in core `c`'s memory. -/
def blocks (c : Dev nD) : Blocks F where
  Z := blkOf hM4 (V m c main_arg0)
  Y := blkOf hM4 (V m c main_arg1)

theorem ix0_at : ∀ t : Fin cfg0.N, win0_0.index t = ![i0 t.val, 0] := (by decide +kernel : ∀ t : Fin grid0.N, win0_0.index t = ![i0 t.val, 0])
theorem ix1_at : ∀ t : Fin cfg0.N, win0_1.index t = ![0, 0] := (by decide +kernel : ∀ t : Fin grid0.N, win0_1.index t = ![0, 0])
theorem ix2_at : ∀ t : Fin cfg0.N, win0_2.index t = ![i2 t.val, 0] := (by decide +kernel : ∀ t : Fin grid0.N, win0_2.index t = ![i2 t.val, 0])

theorem i0_lt {n : ℕ} (h : n < 16) : i0 n < 4 := by unfold i0; split_ifs <;> omega
theorem i2_lt (n : ℕ) : i2 n < 4 := by unfold i2; split_ifs <;> omega

theorem iblk0 (c : Dev nD) (t : Fin cfg0.N) : iblk m c 0 t = (blocks m c).Y (i0 t.val) := by
  have ht : t.val < 16 := t.isLt
  have hi := i0_lt ht
  funext y
  have hy : (y 0).val < 1024 := (y 0).isLt
  unfold iblk blocks blkOf
  blk_simp
  refine congrArg (V m c main_arg1) ?_
  funext a
  apply Fin.ext
  match a with
  | ⟨0, _⟩ =>
    blk_simp [ix0_at]
    show _ = (1024 * i0 t.val + (y 0).val) % 4096
    rw [Nat.mod_eq_of_lt (by omega)]
    show i0 t.val * 1024 + (y 0).val = 1024 * i0 t.val + (y 0).val
    omega
  | ⟨1, _⟩ =>
    blk_simp [ix0_at]
    rfl

theorem iblk1 (c : Dev nD) (t : Fin cfg0.N) : iblk m c 1 t = (blocks m c).Z 0 := by
  funext y
  have hy : (y 0).val < 1024 := (y 0).isLt
  unfold iblk blocks blkOf
  blk_simp
  refine congrArg (V m c main_arg0) ?_
  funext a
  apply Fin.ext
  match a with
  | ⟨0, _⟩ =>
    blk_simp [ix1_at]
    show _ = (1024 * 0 + (y 0).val) % 4096
    rw [Nat.mod_eq_of_lt (by omega)]
    show  (y 0).val = 1024 * 0 + (y 0).val
    omega
  | ⟨1, _⟩ =>
    blk_simp [ix1_at]
    rfl

theorem iblk2 (c : Dev nD) (t : Fin cfg0.N) : iblk m c 2 t = (blocks m c).Z (i2 t.val) := by
  have hi := i2_lt t.val
  funext y
  have hy : (y 0).val < 1024 := (y 0).isLt
  unfold iblk blocks blkOf
  blk_simp
  refine congrArg (V m c main_arg0) ?_
  funext a
  apply Fin.ext
  match a with
  | ⟨0, _⟩ =>
    blk_simp [ix2_at]
    show _ = (1024 * i2 t.val + (y 0).val) % 4096
    rw [Nat.mod_eq_of_lt (by omega)]
    show i2 t.val * 1024 + (y 0).val = 1024 * i2 t.val + (y 0).val
    omega
  | ⟨1, _⟩ =>
    blk_simp [ix2_at]
    rfl

/-! ## The schedule of the second output -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem idle4 : ∀ t : Fin cfg0.N, t.val % 4 ≠ 3 → cfg0.idle 4 (grid0.coords t) = true :=
  (by decide +kernel : ∀ t : Fin grid0.N, t.val % 4 ≠ 3 → cfg0.idle 4 (grid0.coords t) = true)
theorem live4 : ∀ t : Fin cfg0.N, t.val % 4 = 3 → cfg0.idle 4 (grid0.coords t) = false :=
  (by decide +kernel : ∀ t : Fin grid0.N, t.val % 4 = 3 → cfg0.idle 4 (grid0.coords t) = false)
theorem noFlush4 : ∀ t : Fin cfg0.N, t.val % 4 ≠ 3 → (cfg0.win 4).flush t = false :=
  (by decide +kernel : ∀ t : Fin grid0.N, t.val % 4 ≠ 3 → win0_4.flush t = false)
theorem notFresh4 : ∀ t : Fin cfg0.N, 4 ≤ t.val → cfg0.fresh 4 t.val = false :=
  (by decide +kernel : ∀ t : Fin grid0.N, 4 ≤ t.val → cfg0.fresh 4 t.val = false)

/-! ## The invariant and the proof data -/

/-- Between points: the scratches at contents the invariant is of, and the generator's register at some state. -/
def Phi (c : Dev nD) (n : ℕ) : sProp 𝕄 :=
  iprop(∃ z : FVec F S4096x1024 .bf16, ∃ y : FVec F S2048x1024 .bf16, ∃ d : FVec F S1024x1 .f32, ∃ q : IVec S1024x128 32,
    ⌜Inv (blocks m c) n z y d q⌝
    ∗ owns (c : Thread nD τ) (Memref.whole cc0_scratch0) fullShare z
    ∗ owns (c : Thread nD τ) (Memref.whole cc0_scratch1) fullShare y
    ∗ owns (c : Thread nD τ) (Memref.whole cc0_scratch2) fullShare d
    ∗ owns (c : Thread nD τ) (Memref.whole cc0_scratch3) fullShare q
    ∗ (∃ r, prngReg c r))

theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The proof data: an input's buffer stays at its block, the first output's is left at the block of products, the second's at
    the hits so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => SIM (blocks m c) (t.val / 4) ((t.val / 4 + t.val % 4) % 4)
    | ⟨4, _⟩ => ACC (blocks m c) ((t.val + 1) / 4 - 1)
  Φ t := Phi m c t.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = SIM (blocks m c) (t.val / 4) ((t.val / 4 + t.val % 4) % 4) := by dsimp only [dats]
theorem after0_4 (c : Dev nD) (t : Fin cfg0.N) : (dats m 0 c).after 4 t = ACC (blocks m c) ((t.val + 1) / 4 - 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem hcarry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t h0 hi _
  rw [after0_4, after0_4]
  have h3 : t.val % 4 ≠ 3 := fun e => by rw [live4 t e] at hi; exact Bool.false_ne_true hi
  have e : (t.val + 1) / 4 - 1 = (t.val - 1 + 1) / 4 - 1 := by omega
  show ACC _ ((t.val + 1) / 4 - 1) = ACC _ ((t.val - 1 + 1) / 4 - 1)
  rw [e]

theorem before0_4 (c : Dev nD) (t : Fin cfg0.N) (h : 4 ≤ t.val) (d) :
    (dats m 0 c).before 4 t d = ACC (blocks m c) (t.val / 4 - 1) := by
  rw [Dat.before_out_traj _ 4 rfl (fun _ _ => rfl) (hcarry4 m c) t.val t rfl d,
    if_neg (by rw [notFresh4 t h]; exact Bool.false_ne_true)]
  dsimp only [dats]
  have e : t.val - 1 + 1 = t.val := by omega
  rw [e]

/-! ## The body at a point -/

/-- The buffers at point `t`. -/
abbrev bufs (t : Fin cfg0.N) : Bufs where
  b0 := win0_0.stage (cfg0.slots t 0)
  b1 := win0_1.stage (cfg0.slots t 1)
  b2 := win0_2.stage (cfg0.slots t 2)
  b3 := win0_3.stage (cfg0.slots t 3)
  b4 := win0_4.stage (cfg0.slots t 4)
  b5 := Memref.whole cc0_scratch0
  b6 := Memref.whole cc0_scratch1
  b7 := Memref.whole cc0_scratch2
  b8 := Memref.whole cc0_scratch3

def bodyPre (c : Dev nD) (t : Fin cfg0.N) : sProp 𝕄 :=
  iprop((dats m 0 c).Φ t.castSucc ∗ (dats m 0 c).owesAt () t.castSucc
    ∗ (∃ d, owns (c : Thread nD τ) (bufs t).b0 fullShare ((dats m 0 c).before 0 t d))
    ∗ (∃ d, owns (c : Thread nD τ) (bufs t).b1 fullShare ((dats m 0 c).before 1 t d))
    ∗ (∃ d, owns (c : Thread nD τ) (bufs t).b2 fullShare ((dats m 0 c).before 2 t d))
    ∗ (∃ d, owns (c : Thread nD τ) (bufs t).b3 fullShare ((dats m 0 c).before 3 t d))
    ∗ (∃ d, owns (c : Thread nD τ) (bufs t).b4 fullShare ((dats m 0 c).before 4 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the second output's buffer is left at. -/
theorem leaves4 (c : Dev nD) (t : Fin cfg0.N) (s : St F) (h : Entry (blocks m c) t.val s)
    (d) (ha : s.acc = (dats m 0 c).before 4 t d) :
    owns (c : Thread nD τ) (bufs t).b4 fullShare (step (grid0.coords t) s).acc ⊢ (dats m 0 c).leavesExact 4 t := by
  by_cases h3 : t.val % 4 = 3
  · rw [show (dats m 0 c).leavesExact 4 t = owns (c : Thread nD τ) (bufs t).b4 fullShare ((dats m 0 c).after 4 t) from by
      unfold Dat.leavesExact; rw [live4 t h3], after0_4]
    have e : (t.val + 1) / 4 - 1 = t.val / 4 := by omega
    rw [e, step_acc (blocks m c) h h3 (fun h0 => ha.trans (before0_4 m c t (by omega) d))]
  · rw [Dat.leavesExact_idle (dats m 0 c) 4 t (idle4 t h3) (noFlush4 t h3), step_acc_idle h3, ha]
    iintro H
    iexists _
    iexact H

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, iblk0, iblk1, iblk2]
  rw [show (dats m 0 c).owesAt () t.succ = (dats m 0 c).owesAt () t.castSucc from rfl,
    show (dats m 0 c).Φ t.succ = Phi m c (t.val + 1) from rfl, show (dats m 0 c).Φ t.castSucc = Phi m c t.val from rfl]
  rw [show (dats m 0 c).leavesExact 0 t = owns (c : Thread nD τ) (bufs t).b0 fullShare ((dats m 0 c).after 0 t) from by
      unfold Dat.leavesExact; rw [live0 t], after0_0, iblk0,
    show (dats m 0 c).leavesExact 1 t = owns (c : Thread nD τ) (bufs t).b1 fullShare ((dats m 0 c).after 1 t) from by
      unfold Dat.leavesExact; rw [live1 t], after0_1, iblk1,
    show (dats m 0 c).leavesExact 2 t = owns (c : Thread nD τ) (bufs t).b2 fullShare ((dats m 0 c).after 2 t) from by
      unfold Dat.leavesExact; rw [live2 t], after0_2, iblk2,
    show (dats m 0 c).leavesExact 3 t = owns (c : Thread nD τ) (bufs t).b3 fullShare ((dats m 0 c).after 3 t) from by
      unfold Dat.leavesExact; rw [live3 t], after0_3]
  unfold Phi
  iintro ⟨⟨%z, %y, %d, %q, %hinv, Hz, Hy, Hd, Hq, Hg⟩, Ho, ⟨%d0, H0⟩, ⟨%d1, H1⟩, ⟨%d2, H2⟩, ⟨%d3, H3⟩, ⟨%d4, H4⟩⟩
  let s : St F := ⟨(blocks m c).Y (i0 t.val), (blocks m c).Z 0, (blocks m c).Z (i2 t.val), (dats m 0 c).before 3 t d3,
    (dats m 0 c).before 4 t d4, z, y, d, q⟩
  have he : Entry (blocks m c) t.val s := ⟨rfl, rfl, rfl, hinv⟩
  have r := step_rest (grid0.coords t) s
  have hb := HT_body (F := F) (c := c) (E := Set.univ) (B := bufs t) (i := grid0.coords t)
    (g0 := hstage0_0 ((cfg0.slots t 0).cast nbuf0_0)) (g1 := hstage0_1 ((cfg0.slots t 1).cast nbuf0_1))
    (g2 := hstage0_2 ((cfg0.slots t 2).cast nbuf0_2)) (g3 := hstage0_3 ((cfg0.slots t 3).cast nbuf0_3))
    (g4 := hstage0_4 ((cfg0.slots t 4).cast nbuf0_4)) (g5 := Memref.isWhole_whole _) (g6 := Memref.isWhole_whole _)
    (g7 := Memref.isWhole_whole _) (g8 := Memref.isWhole_whole _) s
  unfold own at hb
  rw [r.1, r.2.1, r.2.2.1, step_sim (blocks m c) he] at hb
  have hv := step_inv (blocks m c) he
  have h4 := leaves4 m c t s he d4 rfl
  iapply (hb _) $$ [H0 H1 H2 H3 H4 Hz Hy Hd Hq]
  · isplitl [H0]; · iexact H0
    isplitl [H1]; · iexact H1
    isplitl [H2]; · iexact H2
    isplitl [H3]; · iexact H3
    isplitl [H4]; · iexact H4
    isplitl [Hz]; · iexact Hz
    isplitl [Hy]; · iexact Hy
    isplitl [Hd]; · iexact Hd
    iexact Hq
  iintro ⟨H0, H1, H2, H3, H4, Hz, Hy, Hd, Hq⟩
  isplitl [Hz Hy Hd Hq Hg]
  · iexists _; iexists _; iexists _; iexists _
    isplitr; · ipureintro; exact hv
    isplitl [Hz]; · iexact Hz
    isplitl [Hy]; · iexact Hy
    isplitl [Hd]; · iexact Hd
    isplitl [Hq]; · iexact Hq
    iexact Hg
  isplitl [Ho]; · iexact Ho
  isplitl [H0]; · iexact H0
  isplitl [H1]; · iexact H1
  isplitl [H2]; · iexact H2
  isplitl [H3]; · iexact H3
  iapply h4
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%z, Hz⟩, ⟨%y, Hy⟩, ⟨%d, Hd⟩, ⟨%q, Hq⟩⟩, Hg⟩
  iexists z; iexists y; iexists d; iexists q
  isplitr
  · ipureintro
    exact ⟨fun h => absurd h (by omega), fun h => absurd h (by omega), fun h => absurd rfl h, fun h => absurd rfl h⟩
  isplitl [Hz]; · iexact Hz
  isplitl [Hy]; · iexact Hy
  isplitl [Hd]; · iexact Hd
  isplitl [Hq]; · iexact Hq
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%z, %y, %d, %q, %hinv, Hz, Hy, Hd, Hq, Hg⟩
  isplitl [Hz Hy Hd Hq]
  · isplitl [Hz]; · iexists _; iexact Hz
    isplitl [Hy]; · iexists _; iexact Hy
    isplitl [Hd]; · iexists _; iexact Hd
    iexists _; iexact Hq
  iexact Hg

/-! ## The launch -/

set_option backward.isDefEq.respectTransparency.types false in
set_option maxHeartbeats 800000 in
/-- Every fair run of the program ends, with the arrays at what the pipeline leaves, the host lines after it run, and every
    counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end as they were, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Body

end
-- ==== Proof.Same.lean ====
/- The compiled program and the idealized one are one text (no operation was rewritten), so what is proved of the second at any
   floats holds of the first. -/
module

public import proofs.«01_k».proof.Proof.Run
public import proofs.«01_k».proof.Proof.Gen.Kernel

@[expose] public section

set_option maxRecDepth 16384

noncomputable section

namespace Cert.Same

open Idealize.ShloMosaic Idealize.SL.Sem

variable {F : FTy → Type} [FloatOps F]

theorem cfgs_eq : Cert.Kernel.cfgs = Cert.KernelIdeal.cfgs := by
  funext p
  match p with
  | 0 => rfl

theorem defs₀_eq : (Cert.Kernel.defs₀ (F := F)) = (Cert.KernelIdeal.defs₀ (F := F)) := by
  unfold Cert.Kernel.defs₀ Cert.KernelIdeal.defs₀
  refine congrArg Defs.onTc ?_
  funext p
  match p with
  | 0 => rfl

theorem defs_eq : (Cert.Kernel.defs (F := F)) = (Cert.KernelIdeal.defs (F := F)) := by
  unfold Cert.Kernel.defs Cert.KernelIdeal.defs
  show Pipeline.defs (fun p => (Cert.Kernel.cfgs p).toPCfg) _ = Pipeline.defs (fun p => (Cert.KernelIdeal.cfgs p).toPCfg) _
  rw [defs₀_eq]; congr 1

theorem main_eq : (Cert.Kernel.main (F := F)) = (Cert.KernelIdeal.main (F := F)) := rfl

/-- The frame of the compiled program. -/
theorem frame_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact Cert.Body.frame_run m g

end Cert.Same

end
-- ==== Proof.Math.lean ====
/- The problem's mathematics over the extended reals: rows divided by their lengths, the products of the rows, and the
   two spellings of the division. -/
module

public import Idealize.ShloMosaic.PureOps.Ideal
public import Idealize.ShloMosaic.Lib.ValueIdxCore

@[expose] public section

noncomputable section

open scoped BigOperators

namespace Cert.Math

open Idealize.ShloMosaic Idealize.ShloMosaic.ValueIdx

/-! ## Sums of squares -/

theorem sq_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

theorem sumSq_nonneg {ι : Type} [Fintype ι] (f : ι → EReal) : 0 ≤ ∑ k, f k * f k := Finset.sum_nonneg fun k _ => sq_nonneg _

theorem sumSq_ne {ι : Type} [Fintype ι] (f : ι → EReal) (h : ∃ k, f k ≠ 0) : (∑ k, f k * f k) ≠ 0 := by
  obtain ⟨k, hk⟩ := h
  intro e
  have := (Finset.sum_eq_zero_iff_of_nonneg fun k _ => sq_nonneg (f k)).mp e k (Finset.mem_univ k)
  exact hk (by simpa using this)

/-- Away from zero, times one over the square root is divided by the square root. -/
theorem mul_rsqrt (x s : EReal) (h0 : 0 ≤ s) (h : s ≠ 0) : x * Ideal.rsqrt s = Ideal.div x (Ideal.sqrt s) := by
  induction s with
  | bot => exact absurd h0 (by simp)
  | top =>
    rw [show Ideal.rsqrt ⊤ = 0 from rfl, show Ideal.sqrt ⊤ = ⊤ from rfl, Ideal.div, if_neg (by simp), EReal.inv_top]
  | coe r =>
    have hr : 0 < r := lt_of_le_of_ne (by exact_mod_cast h0) (fun e => h (by rw [← e]; rfl))
    have hs : Real.sqrt r ≠ 0 := (Real.sqrt_pos.mpr hr).ne'
    have e1 : Ideal.rsqrt (r : EReal) = (((Real.sqrt r)⁻¹ : ℝ) : EReal) := by
      show (if r < 0 then ⊥ else if r = 0 then ⊤ else (((Real.sqrt r)⁻¹ : ℝ) : EReal)) = _
      rw [if_neg (not_lt_of_gt hr), if_neg hr.ne']
    have e2 : Ideal.sqrt (r : EReal) = ((Real.sqrt r : ℝ) : EReal) := by
      show (if r < 0 then ⊥ else ((Real.sqrt r : ℝ) : EReal)) = _
      rw [if_neg (not_lt_of_gt hr)]
    rw [e1, e2, Ideal.div, if_neg (by exact_mod_cast hs), EReal.coe_inv]

/-! ## The products of the rows -/

/-- An operand: 4096 rows of 1024. -/
abbrev Op := (⟨2, ![4096, 1024]⟩ : Shape).Idx → EReal

/-- An entry of the operand with its rows divided by their lengths, -/
def nrm (X : Op) (r : Fin 4096) (k : Fin 1024) : EReal :=
  Ideal.div (X (ix2 r k)) (Ideal.sqrt (∑ q : Fin 1024, X (ix2 r q) * X (ix2 r q)))

/-- and a product of a row of `Y` and a row of `Z`. -/
def sim (Z Y : Op) (r c : Fin 4096) : EReal := ∑ k : Fin 1024, nrm Y r k * nrm Z c k

/-- Every row has an entry that is not zero. -/
def RowsNe (X : Op) : Prop := ∀ r : Fin 4096, ∃ k : Fin 1024, X (ix2 r k) ≠ 0

theorem nrm_eq (X : Op) (hX : RowsNe X) (r : Fin 4096) (k : Fin 1024) :
    X (ix2 r k) * Ideal.rsqrt (∑ q : Fin 1024, X (ix2 r q) * X (ix2 r q)) = nrm X r k :=
  mul_rsqrt _ _ (sumSq_nonneg _) (sumSq_ne _ (hX r))

end Cert.Math
-- ==== Proof.Entries.lean ====
/- The kernel's float values at an entry, over the extended reals. -/
module

public import proofs.«01_k».proof.Proof.Inv
public import proofs.«01_k».proof.Proof.Math
public import Idealize.ShloMosaic.Lib.ValueIdx
public import Idealize.ShloMosaic.Lib.ValueLayoutCasts
public import Idealize.ShloMosaic.Lib.MatmulPlain

@[expose] public section

set_option maxRecDepth 16384

noncomputable section

open scoped BigOperators

namespace Cert.Entries

open Cert.KernelIdeal Cert.KernelIdeal.Gen Cert.Body Cert.Math
open Idealize.ShloMosaic Idealize.ShloMosaic.ValueIdx

/-- One column spread over many. -/
theorem spread_at {α : Type} {a b : ℕ} (v : (⟨2, ![a, 1]⟩ : Shape).Idx → α) (h : (⟨2, ![a, 1]⟩ : Shape).Broadcasts ⟨2, ![a, b]⟩)
    (ha : a ≠ 1) (r : Fin a) (c : Fin b) : broadcastTo ⟨2, ![a, b]⟩ v h (ix2 r c) = v (ix2 r 0) :=
  broadcastTo_apply v h _ _ fun d => match d with
    | ⟨0, _⟩ => (if_neg ha).symm
    | ⟨1, _⟩ => (if_pos rfl).symm

/-- A sum along the rows. -/
theorem rowSum_at {a b : ℕ} (v : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ c : Fin b, v (ix2 r c) := by
  refine (Ideal.multiReduction_add_single v _ h hφ hacc (ix1 r)).trans (Finset.sum_congr rfl fun c _ => congrArg v ?_)
  funext d
  match d with
  | ⟨0, _⟩ => rfl
  | ⟨1, _⟩ => rfl

theorem pay5_at (v : FVec Ideal S1024x1024 .f32) (r k : Fin 1024) :
    (k0_pay5 (F := Ideal) v (ix2 r k) : EReal) = (v (ix2 r k) : EReal) * Ideal.rsqrt (∑ q : Fin 1024, (v (ix2 r q) : EReal) * v (ix2 r q)) := by
  unfold k0_pay5
  dsimp only
  rw [shapeCast_self]
  show v (ix2 r k) * broadcastTo S1024x1024 _ _ (ix2 r k) = _
  rw [spread_at _ _ (by decide)]
  show _ * Ideal.rsqrt (shapeCast S1024x1 _ _ (ix2 r 0)) = _
  rw [shapeCast_a_a1_apply]
  exact congrArg (fun s : EReal => (v (ix2 r k) : EReal) * Ideal.rsqrt s) (rowSum_at (mulf v v) _ _ _ r)

theorem pay6_eq (v : FVec Ideal S1024x1024 .f32) : k0_pay6 (F := Ideal) v = k0_pay5 (F := Ideal) v := rfl

theorem pay9_at (y z : FVec Ideal S1024x1024 .bf16) (r c : Fin 1024) :
    (k0_pay9 (F := Ideal) y z (ix2 r c) : EReal) = ∑ k : Fin 1024, (y (ix2 r k) : EReal) * z (ix2 c k) := by
  unfold k0_pay9
  refine (Ideal.matmul_transposedRhs_apply none y z _ r c).trans ?_
  show Ideal.ofBits .f32 0x00000000#32 + _ = _
  rw [Ideal.ofBits_zero_f32, zero_add]

/-- The coordinate along an axis, as a word. -/
theorem iota_at {s : Shape} (d : Fin s.rank) (h : s.Iotas .tc 32 [d]) (j : s.Idx) : iota .tc s 32 [d] h j = BitVec.ofNat 32 (j d).val := by
  show BitVec.ofNat 32 (0 * s.size d + (j d).val) = _
  rw [Nat.zero_mul, Nat.zero_add]

/-- A row number and a column number as words: the entry of the unit matrix. -/
theorem unit_at (h0 : S1024x1024.Iotas .tc 32 [0]) (h1 : S1024x1024.Iotas .tc 32 [1]) (hlt : 1 < 32) (r c : Fin 1024) :
    (sitofp (F := Ideal) .f32 (extui 32 (cmpi .eq (iota .tc S1024x1024 32 [0] h0) (iota .tc S1024x1024 32 [1] h1)) hlt) (ix2 r c) : EReal)
      = if r = c then 1 else 0 := by
  have e : cmpi .eq (iota .tc S1024x1024 32 [0] h0) (iota .tc S1024x1024 32 [1] h1) (ix2 r c) = BitVec.ofBool (decide (r.val = c.val)) := by
    show IntOp.cmpi .eq (iota .tc S1024x1024 32 [0] h0 (ix2 r c)) (iota .tc S1024x1024 32 [1] h1 (ix2 r c)) = _
    rw [iota_at, iota_at]
    exact WordCmp.cmpi_eq_ofNat (r.isLt.trans (by norm_num)) (c.isLt.trans (by norm_num))
  show ((((cmpi .eq (iota .tc S1024x1024 32 [0] h0) (iota .tc S1024x1024 32 [1] h1) (ix2 r c)).setWidth 32).toInt : ℝ) : EReal) = _
  rw [e]
  by_cases h : r = c
  · rw [if_pos h, decide_eq_true (congrArg Fin.val h)]
    show (((1 : ℤ) : ℝ) : EReal) = 1
    simp
  · rw [if_neg h, decide_eq_false (fun h' => h (Fin.ext h'))]
    show (((0 : ℤ) : ℝ) : EReal) = 0
    simp

/-- The diagonal of the products is picked out by a sum against the unit matrix. -/
theorem pay10_at (y z : FVec Ideal S1024x1024 .bf16) (r : Fin 1024) : k0_pay10 (F := Ideal) y z (ix2 r 0) = k0_pay9 (F := Ideal) y z (ix2 r r) := by
  unfold k0_pay10
  dsimp only
  rw [shapeCast_a_a1_apply]
  refine (rowSum_at _ _ _ _ r).trans ((Finset.sum_congr rfl fun c _ =>
    congrArg ((k0_pay9 (F := Ideal) y z (ix2 r c) : EReal) * ·) (unit_at _ _ _ r c)).trans ?_)
  simp

theorem pay11_at (y z : FVec Ideal S1024x1024 .bf16) (r : Fin 1024) : k0_pay11 (F := Ideal) y z (ix2 r 0) = k0_pay9 (F := Ideal) y z (ix2 r r) := by
  unfold k0_pay11
  rw [shapeCast_self, pay10_at]

/-! ## The blocks of two operands -/

/-- The row of an operand a block's row is. -/
def row (k : ℕ) (r : Fin 1024) : Fin 4096 := ⟨(1024 * k + r.val) % 4096, Nat.mod_lt _ hM4⟩

/-- The blocks of two operands. -/
def ops (Z Y : Op) : Blocks Ideal := ⟨blkOf hM4 Z, blkOf hM4 Y⟩

variable (Z Y : Op) (hZ : RowsNe Z) (hY : RowsNe Y)

theorem norm_at (X : Op) (hX : RowsNe X) (k : ℕ) (r q : Fin 1024) :
    (k0_pay5 (F := Ideal) (blkOf hM4 X k) (ix2 r q) : EReal) = nrm X (row k r) q :=
  (pay5_at _ r q).trans (nrm_eq X hX (row k r) q)

include hZ hY in
/-- A block of products is a block of the array of all the products, -/
theorem SIM_at (i k : ℕ) (r c : Fin 1024) : (SIM (ops Z Y) i k (ix2 r c) : EReal) = sim Z Y (row i r) (row k c) :=
  (pay9_at _ _ r c).trans (Finset.sum_congr rfl fun q _ => congrArg₂ (fun a b : EReal => a * b) (norm_at Y hY i r q) (norm_at Z hZ k c q))

include hZ hY in
/-- and the diagonal kept is the array's. -/
theorem DG_at (i : ℕ) (r : Fin 1024) : (DG (ops Z Y) i (ix2 r 0) : EReal) = sim Z Y (row i r) (row i r) :=
  (pay11_at _ _ r).trans (SIM_at Z Y hZ hY i i r r)

end Cert.Entries
-- ==== Proof.Rank.lean ====
/- A stable sort by a key, greatest first: an element is among the first `k` exactly when fewer than `k` others beat it. -/
module

public import Idealize.ShloMosaic.Lib.SortPrefix
public import Mathlib.Data.Fintype.Card
public import Mathlib.Data.Fintype.EquivFin
public import Mathlib.Order.Interval.Finset.Fin

@[expose] public section

namespace Cert.Rank

open Idealize.ShloMosaic

/-- Two relations that agree on every pair of a later and an earlier element of a list sort it alike. -/
theorem stableSort_eq {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

variable {n : ℕ} {κ : Type} [LinearOrder κ]

/-- `c` beats `i`: its key is greater, or as great and `c` comes first. -/
def beats (key : Fin n → κ) (c i : Fin n) : Bool := decide (key i < key c) || (decide (key c = key i) && decide (c < i))

theorem beats_total (key : Fin n → κ) : StrictTotalBefore (beats key) :=
  StrictTotalBefore.of_key_then_position (fun a b => decide (b < a)) key (by simp)
    (fun a b c h h' => by simp only [decide_eq_true_eq] at h h' ⊢; exact h'.trans h)
    (fun a b => by
      simp only [decide_eq_true_eq]
      rcases lt_trichotomy a b with h | h | h
      · exact Or.inr (Or.inr h)
      · exact Or.inr (Or.inl h)
      · exact Or.inl h)

/-- The stable sort by the keys alone is the sort by the keys and then the positions. -/
theorem sortedFrom_key (key : Fin n → κ) (R : Fin n → Fin n → Bool) (hR : ∀ a b, R a b = decide (key b < key a)) :
    sortedFrom R = sortedFrom (beats key) := by
  have e : sortPositions n R = sortPositions n (beats key) := by
    refine stableSort_eq _ _ _ ((List.pairwise_lt_finRange n).imp fun {a b} hab => ?_)
    rw [hR]
    simp [beats, not_lt_of_gt hab]
  funext k
  unfold sortedFrom
  rw [List.get_of_eq e]
  rfl

theorem beats_sorted (key : Fin n → κ) (a b : Fin n) :
    beats key (sortedFrom (beats key) a) (sortedFrom (beats key) b) = decide (a < b) := by
  have hB := beats_total key
  have noinv : ∀ i j : Fin n, i < j → beats key (sortedFrom (beats key) j) (sortedFrom (beats key) i) = false :=
    sortedFrom_noInversion _ _ hB.asymm (fun _ _ h => h) hB.negTrans
  rcases lt_trichotomy a b with h | h | h
  · rw [decide_eq_true h]
    rcases hB.total _ _ (fun e => h.ne (sortedFrom_injective _ e)) with h' | h'
    · exact h'
    · rw [noinv a b h] at h'; exact absurd h' (by decide)
  · subst h; rw [hB.irrefl]; exact (decide_eq_false (lt_irrefl a)).symm
  · rw [noinv b a h]; exact (decide_eq_false (not_lt_of_gt h)).symm

/-- How many beat `i`. -/
def rank (key : Fin n → κ) (i : Fin n) : ℕ := (Finset.univ.filter fun c => beats key c i = true).card

theorem rank_sorted (key : Fin n → κ) (p : Fin n) : rank key (sortedFrom (beats key) p) = p.val := by
  let e : Fin n ≃ Fin n := Equiv.ofBijective (sortedFrom (beats key)) ⟨sortedFrom_injective _, sortedFrom_surjective _⟩
  have h : (Finset.univ.filter fun c => beats key c (sortedFrom (beats key) p) = true)
      = (Finset.univ.filter fun a : Fin n => a < p).map e.toEmbedding := by
    ext c
    obtain ⟨a, rfl⟩ := e.surjective c
    rw [Finset.mem_map_equiv, Equiv.symm_apply_apply, Finset.mem_filter, Finset.mem_filter]
    show _ ∧ beats key (sortedFrom (beats key) a) _ = true ↔ _
    rw [beats_sorted, decide_eq_true_eq]
    exact ⟨fun h => ⟨Finset.mem_univ _, h.2⟩, fun h => ⟨Finset.mem_univ _, h.2⟩⟩
  rw [rank, h, Finset.card_map, ← Fin.card_Iio p]
  congr 1
  ext c
  simp

/-- `i` is among the first `k` exactly when fewer than `k` beat it. -/
theorem mem_first_iff (key : Fin n → κ) (i : Fin n) (k : ℕ) :
    (∃ p : Fin n, p.val < k ∧ sortedFrom (beats key) p = i) ↔ rank key i < k := by
  constructor
  · rintro ⟨p, hp, rfl⟩
    rw [rank_sorted]; exact hp
  · intro h
    obtain ⟨p, rfl⟩ := sortedFrom_surjective (beats key) i
    rw [rank_sorted] at h
    exact ⟨p, h, rfl⟩

end Cert.Rank
-- ==== Proof.Counts.lean ====
/- The kernel's counts: after a row of blocks, the 128 lanes of a row together hold how many columns beat its diagonal. -/
module

public import proofs.«01_k».proof.Proof.Entries
public import proofs.«01_k».proof.Proof.Rank

@[expose] public section

set_option maxRecDepth 16384

noncomputable section

open scoped BigOperators

namespace Cert.Counts

open Cert.KernelIdeal Cert.KernelIdeal.Gen Cert.Body Cert.Math Cert.Entries Cert.Rank
open Idealize.ShloMosaic Idealize.ShloMosaic.ValueIdx

/-! ## Eight chunks of a mask -/

/-- A chunk of 128 columns of a mask, as words. -/
def chunk (m : IVec S1024x1024 1) (o : ℕ) (h : S1024x1024.Slices ![0, o] S1024x128) : IVec S1024x128 32 :=
  extui 32 (extractStridedSlice S1024x128 ![0, o] m h) natLt_1_32

/-- The eight chunks of a mask added. -/
def chunks (m : IVec S1024x1024 1) : IVec S1024x128 32 :=
  addi (addi (addi (addi (addi (addi (addi (chunk m 0 slices_S1024x1024_o0_0_S1024x128)
    (chunk m 128 slices_S1024x1024_o0_128_S1024x128)) (chunk m 256 slices_S1024x1024_o0_256_S1024x128))
    (chunk m 384 slices_S1024x1024_o0_384_S1024x128)) (chunk m 512 slices_S1024x1024_o0_512_S1024x128))
    (chunk m 640 slices_S1024x1024_o0_640_S1024x128)) (chunk m 768 slices_S1024x1024_o0_768_S1024x128))
    (chunk m 896 slices_S1024x1024_o0_896_S1024x128)

/-- The column of a lane of a chunk. -/
def col (q : Fin 8) (l : Fin 128) : Fin 1024 := ⟨128 * q.val + l.val, by omega⟩

theorem chunk_at (m : IVec S1024x1024 1) (o : ℕ) (h) (q : Fin 8) (ho : o = 128 * q.val) (r : Fin 1024) (l : Fin 128) :
    chunk m o h (ix2 r l) = BitVec.ofNat 32 (m (ix2 r (col q l))).toNat := by
  subst ho
  have e : extractStridedSlice S1024x128 ![0, 128 * q.val] m h (ix2 r l) = m (ix2 r (col q l)) := congrArg m (by
    funext d
    match d with
    | ⟨0, _⟩ => exact Fin.ext (Nat.zero_add _)
    | ⟨1, _⟩ => rfl)
  show (extractStridedSlice S1024x128 ![0, 128 * q.val] m h (ix2 r l)).setWidth 32 = _
  rw [e]
  exact BitVec.eq_of_toNat_eq (by rw [BitVec.toNat_setWidth, BitVec.toNat_ofNat])

theorem chunks_at (m : IVec S1024x1024 1) (r : Fin 1024) (l : Fin 128) :
    chunks m (ix2 r l) = BitVec.ofNat 32 (∑ q : Fin 8, (m (ix2 r (col q l))).toNat) := by
  rw [Fin.sum_univ_eight]
  simp only [BitVec.ofNat_add]
  rw [← chunk_at m 0 slices_S1024x1024_o0_0_S1024x128 0 rfl, ← chunk_at m 128 slices_S1024x1024_o0_128_S1024x128 1 rfl,
    ← chunk_at m 256 slices_S1024x1024_o0_256_S1024x128 2 rfl, ← chunk_at m 384 slices_S1024x1024_o0_384_S1024x128 3 rfl,
    ← chunk_at m 512 slices_S1024x1024_o0_512_S1024x128 4 rfl, ← chunk_at m 640 slices_S1024x1024_o0_640_S1024x128 5 rfl,
    ← chunk_at m 768 slices_S1024x1024_o0_768_S1024x128 6 rfl, ← chunk_at m 896 slices_S1024x1024_o0_896_S1024x128 7 rfl]
  rfl

theorem pay1_eq (v : FVec Ideal S1024x1024 .f32) (d : FVec Ideal S1024x1 .f32) (n : IVec S1024x128 32) :
    k0_pay1 (F := Ideal) v d n = addi n (chunks (cmpf .ogt v (broadcastTo S1024x1024 d broadcasts_S1024x1_S1024x1024))) :=
  (shapeCast_self _ _).trans rfl

theorem pay2_eq (v : FVec Ideal S1024x1024 .f32) (d : FVec Ideal S1024x1 .f32) (n : IVec S1024x128 32) :
    k0_pay2 (F := Ideal) v d n = addi n (chunks (cmpf .oge v (broadcastTo S1024x1024 d broadcasts_S1024x1_S1024x1024))) :=
  (shapeCast_self _ _).trans rfl

theorem pay12_eq (y z : FVec Ideal S1024x1024 .bf16) : k0_pay12 (F := Ideal) y z = chunks (ori
    (cmpf .ogt (k0_pay9 (F := Ideal) y z) (broadcastTo S1024x1024 (k0_pay10 (F := Ideal) y z) broadcasts_S1024x1_S1024x1024))
    (andi (cmpf .oeq (k0_pay9 (F := Ideal) y z) (broadcastTo S1024x1024 (k0_pay10 (F := Ideal) y z) broadcasts_S1024x1_S1024x1024))
      (cmpi .slt (iota .tc S1024x1024 32 [1] iota_S1024x1024_d1_w32) (iota .tc S1024x1024 32 [0] iota_S1024x1024_d0_w32)))) :=
  (shapeCast_self _ _).trans rfl

/-! ## The masks are "beats" -/

variable (Z Y : Op) (hZ : RowsNe Z) (hY : RowsNe Y)

/-- Column `c` beats the diagonal of row `r`. -/
def hit (r c : Fin 4096) : ℕ := (beats (sim Z Y r) c r).toNat

theorem ofBool_toNat (b : Bool) : (BitVec.ofBool b).toNat = b.toNat := by cases b <;> rfl

theorem row_val {i : ℕ} (hi : i < 4) (r : Fin 1024) : (row i r).val = 1024 * i + r.val := Nat.mod_eq_of_lt (by omega)

include hZ hY in
/-- Right of the diagonal block a tie does not beat, -/
theorem right_at {i k : ℕ} (h : i < k) (hk : k < 4) (r c : Fin 1024) :
    (cmpf .ogt (SIM (ops Z Y) i k) (broadcastTo S1024x1024 (DG (ops Z Y) i) broadcasts_S1024x1_S1024x1024) (ix2 r c)).toNat
      = hit Z Y (row i r) (row k c) := by
  have hlt : row i r < row k c := by
    rw [Fin.lt_def, row_val (h.trans hk), row_val hk]; omega
  show (BitVec.ofBool (decide ((broadcastTo S1024x1024 (DG (ops Z Y) i) broadcasts_S1024x1_S1024x1024 (ix2 r c) : EReal)
    < SIM (ops Z Y) i k (ix2 r c)))).toNat = _
  rw [spread_at _ _ (by decide), SIM_at Z Y hZ hY, DG_at Z Y hZ hY, hit, beats, decide_eq_false (not_lt_of_gt hlt), Bool.and_false, Bool.or_false]
  exact ofBool_toNat _

include hZ hY in
/-- left of it a tie does, -/
theorem left_at {i k : ℕ} (h : k < i) (hi : i < 4) (r c : Fin 1024) :
    (cmpf .oge (SIM (ops Z Y) i k) (broadcastTo S1024x1024 (DG (ops Z Y) i) broadcasts_S1024x1_S1024x1024) (ix2 r c)).toNat
      = hit Z Y (row i r) (row k c) := by
  have hlt : row k c < row i r := by
    rw [Fin.lt_def, row_val (h.trans hi), row_val hi]; omega
  show (BitVec.ofBool (decide ((broadcastTo S1024x1024 (DG (ops Z Y) i) broadcasts_S1024x1_S1024x1024 (ix2 r c) : EReal)
    ≤ SIM (ops Z Y) i k (ix2 r c)))).toNat = _
  rw [spread_at _ _ (by decide), SIM_at Z Y hZ hY, DG_at Z Y hZ hY, hit, beats, decide_eq_true hlt, Bool.and_true, ← Bool.decide_or]
  rw [decide_eq_decide.mpr (show sim Z Y (row i r) (row i r) ≤ sim Z Y (row i r) (row k c) ↔ _ from
    le_iff_lt_or_eq.trans (or_congr Iff.rfl eq_comm))]
  exact ofBool_toNat _

include hZ hY in
/-- and in it the earlier column's does. -/
theorem diag_at {i : ℕ} (hi : i < 4) (r c : Fin 1024) :
    (ori (cmpf .ogt (SIM (ops Z Y) i i) (broadcastTo S1024x1024 (k0_pay10 (F := Ideal) (YN (ops Z Y) i) (ZN (ops Z Y) i)) broadcasts_S1024x1_S1024x1024))
      (andi (cmpf .oeq (SIM (ops Z Y) i i) (broadcastTo S1024x1024 (k0_pay10 (F := Ideal) (YN (ops Z Y) i) (ZN (ops Z Y) i)) broadcasts_S1024x1_S1024x1024))
        (cmpi .slt (iota .tc S1024x1024 32 [1] iota_S1024x1024_d1_w32) (iota .tc S1024x1024 32 [0] iota_S1024x1024_d0_w32))) (ix2 r c)).toNat
      = hit Z Y (row i r) (row i c) := by
  have hlt : (c.val < r.val) ↔ row i c < row i r := by
    rw [Fin.lt_def, row_val hi, row_val hi]; omega
  have e : (broadcastTo S1024x1024 (k0_pay10 (F := Ideal) (YN (ops Z Y) i) (ZN (ops Z Y) i)) broadcasts_S1024x1_S1024x1024 (ix2 r c) : EReal)
      = sim Z Y (row i r) (row i r) := by
    rw [spread_at _ _ (by decide), pay10_at]
    exact SIM_at Z Y hZ hY i i r r
  show (BitVec.ofBool (decide ((broadcastTo S1024x1024 (k0_pay10 (F := Ideal) (YN (ops Z Y) i) (ZN (ops Z Y) i)) broadcasts_S1024x1_S1024x1024 (ix2 r c) : EReal)
    < SIM (ops Z Y) i i (ix2 r c))) ||| (BitVec.ofBool (decide ((SIM (ops Z Y) i i (ix2 r c) : EReal)
      = broadcastTo S1024x1024 (k0_pay10 (F := Ideal) (YN (ops Z Y) i) (ZN (ops Z Y) i)) broadcasts_S1024x1_S1024x1024 (ix2 r c)))
      &&& IntOp.cmpi .slt (iota .tc S1024x1024 32 [1] iota_S1024x1024_d1_w32 (ix2 r c)) (iota .tc S1024x1024 32 [0] iota_S1024x1024_d0_w32 (ix2 r c)))).toNat = _
  rw [e, SIM_at Z Y hZ hY, iota_at, iota_at, hit, beats, ← decide_eq_decide.mpr hlt]
  have e' : IntOp.cmpi .slt (BitVec.ofNat 32 c.val) (BitVec.ofNat 32 r.val) = BitVec.ofBool (decide (c.val < r.val)) :=
    WordCmp.cmpi_slt_ofNat (c.isLt.trans (by norm_num)) (r.isLt.trans (by norm_num))
  rw [show IntOp.cmpi .slt (BitVec.ofNat 32 ((ix2 r c : S1024x1024.Idx) 1).val) (BitVec.ofNat 32 ((ix2 r c : S1024x1024.Idx) 0).val)
    = BitVec.ofBool (decide (c.val < r.val)) from e']
  generalize decide (sim Z Y (row i r) (row i r) < sim Z Y (row i r) (row i c)) = a
  generalize decide (sim Z Y (row i r) (row i c) = sim Z Y (row i r) (row i r)) = b
  generalize decide (c.val < r.val) = d
  revert a b d
  decide

end Cert.Counts
-- ==== Proof.Ranks.lean ====
/- The counts of a row of blocks are the ranks of its rows' diagonals, and the tile accumulated holds how many ranks
   are below one and below ten. -/
module

public import proofs.«01_k».proof.Proof.Counts
public import Idealize.ShloMosaic.Lib.WordCmp
public import Mathlib.Algebra.BigOperators.Fin

@[expose] public section

set_option maxRecDepth 16384

noncomputable section

open scoped BigOperators

namespace Cert.Ranks

open Cert.KernelIdeal Cert.KernelIdeal.Gen Cert.Body Cert.Math Cert.Entries Cert.Rank Cert.Counts
open Idealize.ShloMosaic Idealize.ShloMosaic.ValueIdx

/-! ## Sums over rows and columns by blocks -/

theorem sum_blocks {M : Type} [AddCommMonoid M] (f : Fin 4096 → M) : ∑ k : Fin 4, ∑ c : Fin 1024, f (row k.val c) = ∑ c, f c := by
  rw [← Fintype.sum_prod_type' fun (k : Fin 4) (c : Fin 1024) => f (row k.val c)]
  refine Fintype.sum_equiv (finProdFinEquiv (m := 4) (n := 1024)) _ _ fun p => congrArg f (Fin.ext ?_)
  show (1024 * p.1.val + p.2.val) % 4096 = p.2.val + 1024 * p.1.val
  have := p.1.isLt
  have := p.2.isLt
  omega

theorem sum_cols {M : Type} [AddCommMonoid M] (f : Fin 1024 → M) : ∑ l : Fin 128, ∑ q : Fin 8, f (col q l) = ∑ c, f c := by
  rw [Finset.sum_comm, ← Fintype.sum_prod_type' fun (q : Fin 8) (l : Fin 128) => f (col q l)]
  refine Fintype.sum_equiv (finProdFinEquiv (m := 8) (n := 128)) _ _ fun p => congrArg f (Fin.ext ?_)
  show 128 * p.1.val + p.2.val = p.2.val + 128 * p.1.val
  omega

/-- The four blocks of columns taken from the diagonal on, round the end. -/
theorem sum_round {M : Type} [AddCommMonoid M] (g : ℕ → M) {i : ℕ} (hi : i < 4) :
    ∑ t ∈ Finset.range 4, g ((i + t) % 4) = ∑ k : Fin 4, g k.val := by
  rw [Fin.sum_univ_four]
  simp only [Finset.sum_range_succ, Finset.sum_range_zero]
  interval_cases i <;> simp <;> abel

/-! ## The counts -/

variable (Z Y : Op) (hZ : RowsNe Z) (hY : RowsNe Y)

include hZ hY in
theorem CN_at {i : ℕ} (hi : i < 4) (r : Fin 1024) (l : Fin 128) (j : ℕ) (hj : j < 4) :
    CN (ops Z Y) i (j + 1) (ix2 r l)
      = BitVec.ofNat 32 (∑ t ∈ Finset.range (j + 1), ∑ q : Fin 8, hit Z Y (row i r) (row ((i + t) % 4) (col q l))) := by
  induction j with
  | zero =>
    show k0_pay12 (F := Ideal) (YN (ops Z Y) i) (ZN (ops Z Y) i) (ix2 r l) = _
    rw [pay12_eq, chunks_at, Finset.sum_range_one, Nat.add_zero, Nat.mod_eq_of_lt hi]
    exact congrArg (BitVec.ofNat 32) (Finset.sum_congr rfl fun q _ => diag_at Z Y hZ hY hi r (col q l))
  | succ j ih =>
    rw [Finset.sum_range_succ, BitVec.ofNat_add, ← ih (by omega)]
    show (if i + (j + 1) < 4 then _ else _ : IVec S1024x128 32) (ix2 r l) = _
    by_cases h : i + (j + 1) < 4
    · rw [if_pos h, pay1_eq]
      refine congrArg (CN (ops Z Y) i (j + 1) (ix2 r l) + ·) ((chunks_at _ r l).trans (congrArg (BitVec.ofNat 32) (Finset.sum_congr rfl fun q _ => ?_)))
      rw [Nat.mod_eq_of_lt h]
      exact right_at Z Y hZ hY (by omega) h r (col q l)
    · rw [if_neg h, pay2_eq]
      refine congrArg (CN (ops Z Y) i (j + 1) (ix2 r l) + ·) ((chunks_at _ r l).trans (congrArg (BitVec.ofNat 32) (Finset.sum_congr rfl fun q _ => ?_)))
      exact left_at Z Y hZ hY (by omega) hi r (col q l)

theorem fold_ofNat {ι : Type} (s : Finset ι) (f : ι → ℕ) :
    s.fold IntOp.addi 0#32 (fun k => BitVec.ofNat 32 (f k)) = BitVec.ofNat 32 (∑ k ∈ s, f k) := by
  classical
  induction s using Finset.induction_on with
  | empty => rfl
  | insert a s ha ih => rw [Finset.fold_insert ha, ih, Finset.sum_insert ha, BitVec.ofNat_add]; rfl

theorem laneSum_at (v : IVec S1024x128 32) (h : S1024x128.Reduces [1] S1024) (h0) (r : Fin 1024) (f : Fin 128 → ℕ)
    (hf : ∀ l, v (ix2 r l) = BitVec.ofNat 32 (f l)) :
    multiReductionI .add [1] S1024 v 0#32 h h0 (ix1 r) = BitVec.ofNat 32 (∑ l, f l) := by
  rw [← fold_ofNat, multiReductionI_eq_fold]
  refine (h.fold_filter_drop_single _ 0#32 v (ix1 r)).trans (congrArg (Finset.fold IntOp.addi 0#32 · Finset.univ) (funext fun l => ?_))
  refine (congrArg v ?_).trans (hf l)
  funext d
  match d with
  | ⟨0, _⟩ => rfl
  | ⟨1, _⟩ => rfl

/-- The rank of a row's diagonal. -/
def rk (r : Fin 4096) : ℕ := rank (sim Z Y r) r

theorem rk_eq (r : Fin 4096) : rk Z Y r = ∑ c, hit Z Y r c := by
  unfold rk rank
  rw [Finset.card_filter]
  refine Finset.sum_congr rfl fun c _ => ?_
  unfold hit
  cases beats (sim Z Y r) c r <;> rfl

theorem rk_le (r : Fin 4096) : rk Z Y r ≤ 4096 := by
  unfold rk rank
  exact (Finset.card_le_univ _).trans_eq (Fintype.card_fin 4096)

include hZ hY in
theorem rank_at {i : ℕ} (hi : i < 4) (r : Fin 1024) (h : S1024x128.Reduces [1] S1024) (h0) {n : ℕ} (hn : n = 3 + 1) :
    multiReductionI .add [1] S1024 (CN (ops Z Y) i n) 0#32 h h0 (ix1 r) = BitVec.ofNat 32 (rk Z Y (row i r)) := by
  subst hn
  refine (laneSum_at _ h h0 r _ fun l => CN_at Z Y hZ hY hi r l 3 (by omega)).trans (congrArg (BitVec.ofNat 32) ?_)
  rw [rk_eq, Finset.sum_comm, ← sum_blocks, ← sum_round (fun k => ∑ c : Fin 1024, hit Z Y (row i r) (row k c)) hi]
  exact Finset.sum_congr rfl fun t _ => sum_cols fun c => hit Z Y (row i r) (row ((i + t) % 4) c)

/-! ## The accumulated tile -/

/-- How many of a row block's counts are below `k`, as the kernel adds them up. -/
def cnt (v : IVec S1024 32) (k : BitVec 32) : EReal :=
  extractAt ![0, 0, 0]
    (shapeCast S1x1x1
      (multiReduction (F := Ideal) (φ := .f32) .add [1, 2] S1
        (shapeCast S1x1024x1
          (sitofp (F := Ideal) .f32 (extui 32 (cmpi .slt (shapeCast S1024x1 v shapeCasts_S1024_S1024x1) (broadcast S1024x1 k)) natLt_1_32) : FVec Ideal S1024x1 .f32)
          shapeCasts_S1024x1_S1x1024x1)
        0x00000000#32 reduces_S1x1024x1_S1 (.inl rfl) rfl)
      shapeCasts_S1_S1x1x1)
    inpos_S1x1x1_p0_0_0

theorem pay4_eq (v : IVec S1024x128 32) :
    k0_pay4 (F := Ideal) v
      = addf (F := Ideal) (φ := .f32)
          (select (andi (cmpi .eq (iota .tc S8x128 32 [0] iota_S8x128_d0_w32) (broadcast S8x128 0#32)) (cmpi .eq (iota .tc S8x128 32 [1] iota_S8x128_d1_w32) (broadcast S8x128 0#32)))
            (broadcast S8x128 (cnt (multiReductionI .add [1] S1024 v 0#32 reduces_S1024x128_S1024 rfl) 1#32)) (broadcast S8x128 (Scalar.ofBits (F := Ideal) .f32 0x00000000#32)))
          (select (andi (cmpi .eq (iota .tc S8x128 32 [0] iota_S8x128_d0_w32) (broadcast S8x128 0#32)) (cmpi .eq (iota .tc S8x128 32 [1] iota_S8x128_d1_w32) (broadcast S8x128 1#32)))
            (broadcast S8x128 (cnt (multiReductionI .add [1] S1024 v 0#32 reduces_S1024x128_S1024 rfl) 10#32)) (broadcast S8x128 (Scalar.ofBits (F := Ideal) .f32 0x00000000#32))) := rfl

/-- One if the claim holds, else zero. -/
def one (p : Prop) [Decidable p] : EReal := if p then 1 else 0

theorem bit_at (n k : ℕ) (hn : n ≤ 4096) (hk : k ≤ 4096) :
    FloatOps.sitofp (F := Ideal) .f32 ((IntOp.cmpi .slt (BitVec.ofNat 32 n) (BitVec.ofNat 32 k)).setWidth 32) = one (n < k) := by
  rw [WordCmp.cmpi_slt_ofNat (by omega) (by omega)]
  unfold one
  by_cases h : n < k
  · rw [if_pos h, decide_eq_true h]
    show ((((BitVec.ofBool true).setWidth 32).toInt : ℝ) : EReal) = 1
    rw [show ((BitVec.ofBool true).setWidth 32).toInt = 1 by decide]
    norm_num
  · rw [if_neg h, decide_eq_false h]
    show ((((BitVec.ofBool false).setWidth 32).toInt : ℝ) : EReal) = 0
    rw [show ((BitVec.ofBool false).setWidth 32).toInt = 0 by decide]
    norm_num

theorem cnt_at (v : IVec S1024 32) (f : Fin 1024 → ℕ) (k : ℕ) (hk : k ≤ 4096) (hf : ∀ r, f r ≤ 4096) (hv : ∀ r, v (ix1 r) = BitVec.ofNat 32 (f r)) :
    cnt v (BitVec.ofNat 32 k) = ∑ r, one (f r < k) := by
  unfold cnt extractAt
  refine (shapeCast_apply _ _ _ (ix1 (0 : Fin 1)) rfl).trans ?_
  refine (Ideal.multiReduction_add_total _ _ _ (fun b => by match b with | ⟨0, _⟩ => rfl) _ _ _).trans ?_
  refine (Fintype.sum_equiv (⟨fun i => i 1, fun r => ix3 (0 : Fin 1) r (0 : Fin 1), fun i => ?_, fun r => rfl⟩ : S1x1024x1.Idx ≃ Fin 1024) _ _ fun i => ?_)
  · funext d
    match d with
    | ⟨0, _⟩ => exact Subsingleton.elim (α := Fin 1) _ _
    | ⟨1, _⟩ => rfl
    | ⟨2, _⟩ => exact Subsingleton.elim (α := Fin 1) _ _
  · refine (shapeCast_apply _ _ i (ix2 (i 1) (0 : Fin 1)) ?_).trans ?_
    · rw [Shape.rowMajor_val_three, Shape.rowMajor_val_two]
      show (i 1).val * 1 + 0 = ((i 0).val * 1024 + (i 1).val) * 1 + (i 2).val
      have h0 : (i 0).val < 1 := (i 0).isLt
      have h2 : (i 2).val < 1 := (i 2).isLt
      omega
    · show FloatOps.sitofp (F := Ideal) .f32 ((IntOp.cmpi .slt (shapeCast S1024x1 v shapeCasts_S1024_S1024x1 (ix2 (i 1) (0 : Fin 1))) (BitVec.ofNat 32 k)).setWidth 32) = _
      rw [show shapeCast S1024x1 v shapeCasts_S1024_S1024x1 (ix2 (i 1) (0 : Fin 1)) = BitVec.ofNat 32 (f (i 1)) from
        (shapeCast_a_a1_apply _ _ _ _).trans (hv (i 1))]
      exact bit_at _ k (hf _) hk

/-- The mask picking entry `(0, c)` of the tile. -/
theorem pick_at (c : ℕ) (hc : c < 2) (q : Fin 128) :
    andi (cmpi .eq (iota .tc S8x128 32 [0] iota_S8x128_d0_w32) (broadcast S8x128 0#32)) (cmpi .eq (iota .tc S8x128 32 [1] iota_S8x128_d1_w32) (broadcast S8x128 (BitVec.ofNat 32 c)))
      (ix2 (0 : Fin 8) q) = BitVec.ofBool (decide (q.val = c)) := by
  show IntOp.andi (IntOp.cmpi .eq (iota .tc S8x128 32 [0] iota_S8x128_d0_w32 (ix2 (0 : Fin 8) q)) 0#32)
    (IntOp.cmpi .eq (iota .tc S8x128 32 [1] iota_S8x128_d1_w32 (ix2 (0 : Fin 8) q)) (BitVec.ofNat 32 c)) = _
  rw [iota_at, iota_at]
  show IntOp.andi 1#1 (IntOp.cmpi .eq (BitVec.ofNat 32 q.val) (BitVec.ofNat 32 c)) = _
  have := q.isLt
  rw [WordCmp.cmpi_eq_ofNat (by omega) (by omega)]
  by_cases h : q.val = c <;> simp only [h, decide_true, decide_false] <;> rfl

/-- The bound counted at the tile's first and second entry: ranks below one, ranks below ten. -/
def bound (q : Fin 2) : ℕ := if q.val = 0 then 1 else 10

theorem pay4_at (v : IVec S1024x128 32) (q : Fin 2) :
    k0_pay4 (F := Ideal) v (ix2 (0 : Fin 8) (⟨q.val, by omega⟩ : Fin 128))
      = cnt (multiReductionI .add [1] S1024 v 0#32 reduces_S1024x128_S1024 rfl) (BitVec.ofNat 32 (bound q)) := by
  rw [pay4_eq]
  refine (congrArg₂ (fun a b : BitVec 1 => (Scalar.select a _ _ + Scalar.select b _ _ : EReal)) (pick_at 0 (by omega) _) (pick_at 1 (by omega) _)).trans ?_
  match q with
  | ⟨0, _⟩ =>
    show (_ + Scalar.ofBits (F := Ideal) .f32 0x00000000#32 : EReal) = _
    exact (congrArg (_ + ·) Ideal.ofBits_zero_f32).trans (add_zero _)
  | ⟨1, _⟩ =>
    show (Scalar.ofBits (F := Ideal) .f32 0x00000000#32 + _ : EReal) = _
    exact (congrArg (· + _) Ideal.ofBits_zero_f32).trans (zero_add _)

theorem ACC_sum (A : Blocks Ideal) (p : S8x128.Idx) (n : ℕ) :
    (ACC A n p : EReal) = ∑ i ∈ Finset.range (n + 1), (k0_pay4 (F := Ideal) (CN A i 4) p : EReal) := by
  induction n with
  | zero => exact (Finset.sum_range_one (fun i => (k0_pay4 (F := Ideal) (CN A i 4) p : EReal))).symm
  | succ n ih =>
    rw [Finset.sum_range_succ, ← ih]
    show k0_pay3 (F := Ideal) (k0_pay4 (CN A (n + 1) 4)) (ACC A n) p = _
    show (shapeCast S8x128 (ACC A n) _ p + _ : EReal) = _
    rw [shapeCast_self]

include hZ hY in
/-- The tile accumulated over all row blocks counts the rows whose diagonal ranks below the bound. -/
theorem ACC_at (q : Fin 2) :
    (ACC (ops Z Y) 3 (ix2 (0 : Fin 8) (⟨q.val, by omega⟩ : Fin 128)) : EReal) = ∑ R : Fin 4096, one (rk Z Y R < bound q) := by
  rw [ACC_sum, ← sum_blocks (fun R => one (rk Z Y R < bound q)), Finset.sum_range]
  refine Finset.sum_congr rfl fun i _ => (pay4_at _ q).trans ?_
  exact cnt_at _ (fun r => rk Z Y (row i.val r)) (bound q) (by unfold bound; split <;> omega) (fun r => rk_le Z Y _)
    fun r => rank_at Z Y hZ hY i.isLt r _ _ rfl

end Cert.Ranks
-- ==== Proof.Value.lean ====
/- What the kernel's program leaves in its two results. -/
module

public import proofs.«01_k».proof.Proof.Run
public import proofs.«01_k».proof.Proof.Ranks
public import Idealize.ShloMosaic.Lib.IdealHost

@[expose] public section

set_option maxRecDepth 16384

noncomputable section

open scoped BigOperators

namespace Cert.Value

open Cert.KernelIdeal Cert.KernelIdeal.Gen Cert.Body Cert.Math Cert.Entries Cert.Counts Cert.Ranks
open Idealize.ShloMosaic Idealize.ShloMosaic.TcCoe Idealize.ShloMosaic.Tactic
open Idealize.ShloMosaic.ValueIdx
open Idealize.SL.Sem
open Idealize.ShloMosaic.Pipeline (Dat Cfg Window)

variable (m : (ℓ : Loc nD τ sig) → Buf (Elt Ideal) ℓ) (ρ : Dev nD → PrngReg) (c : Dev nD)

/-- The two operands. -/
def opZ : Op := m ((c.tc : Thread nD τ).loc main_arg0)
def opY : Op := m ((c.tc : Thread nD τ).loc main_arg1)

theorem blocks_eq : blocks m c = ops (opZ m c) (opY m c) := rfl

/-! ## The similarities -/

theorem ix3_at : ∀ t : Fin cfg0.N, win0_3.index t = ![t.val / 4, (t.val / 4 + t.val % 4) % 4] :=
  (by decide +kernel : ∀ t : Fin grid0.N, win0_3.index t = ![t.val / 4, (t.val / 4 + t.val % 4) % 4])

/-- All similarities. -/
def simAll (Z Y : Op) : S4096x4096.Idx → EReal := fun j => sim Z Y (j 0) (j 1)

theorem arr3 (hZ : RowsNe (opZ m c)) (hY : RowsNe (opY m c)) :
    (dats (F := Ideal) m 0 c).arrAt 3 cfg0.N = simAll (opZ m c) (opY m c) := by
  refine (dats (F := Ideal) m 0 c).arrAt_eq_of_covers 3 _ (by decide +kernel) fun t hf y => ?_
  have ht : t.val < 16 := t.isLt
  have h0 : (y 0).val < 1024 := (y 0).isLt
  have h1 : (y 1).val < 1024 := (y 1).isLt
  blk_simp
  rw [after0_3, blocks_eq]
  refine (congrArg (SIM (ops (opZ m c) (opY m c)) (t.val / 4) ((t.val / 4 + t.val % 4) % 4)) (eq_ix2 (n0 := 1024) (n1 := 1024) y)).trans ?_
  refine (SIM_at _ _ hZ hY _ _ _ _).trans ?_
  unfold simAll
  refine congrArg₂ (sim (opZ m c) (opY m c)) (Fin.ext ?_) (Fin.ext ?_)
  · refine (row_val (by omega) _).trans ?_
    blk_simp [ix3_at]
    show 1024 * (t.val / 4) + (y 0).val = t.val / 4 * 1024 + (y 0).val
    omega
  · refine (row_val (by omega) _).trans ?_
    blk_simp [ix3_at]
    show 1024 * ((t.val / 4 + t.val % 4) % 4) + (y 1).val = (t.val / 4 + t.val % 4) % 4 * 1024 + (y 1).val
    omega

/-! ## The tile -/

theorem arr4 : (dats (F := Ideal) m 0 c).arrAt 4 cfg0.N = ACC (ops (opZ m c) (opY m c)) 3 := by
  refine (dats (F := Ideal) m 0 c).arrAt_eq_of_after_last 4 (⟨15, by decide⟩ : Fin cfg0.N) (by decide +kernel) _ fun j => ?_
  rw [after0_4, blocks_eq]
  rfl

/-! ## The lines after the region -/

/-- What the first result ends as, from the tile. -/
def tail (x : FVec Ideal S8x128 .f32) : FVec Ideal S2 .f32 :=
  Host.divf (shapeCast S2 (extractStridedSlice S1x2 ![0, 0] x slices_S8x128_S1x2_0_0) shapeCasts_S1x2_S2)
    (broadcastInDim S2 ![] bcast_S_S2 (constant S_ .f32 0x45800000#32))

theorem after_tail : Pipeline.afterTail₀ cfgs (dats (F := Ideal) m) 0 (V0 m) [hostOps1] c main_v0_0 = tail (ACC (ops (opZ m c) (opY m c)) 3) := by
  have e := (dats (F := Ideal) m 0 c).withArrays_arrAt sharedIn0 (V0 m c) (A_eq m c) 4
  rw [arr4] at e
  rw [← e]
  unfold Pipeline.afterTail₀ tail
  simp only [List.flatten_cons, List.flatten_nil, List.append_nil, hostOps1, StableHlo.TRef.binary, StableHlo.TRef.nullary, StableHlo.TRef.unary, StableHlo.TRef.reshape, StableHlo.TRef.toBuf, StableHlo.TRef.ofBuf, cast_eq]
  after_results_simp <;> rfl

theorem tail_at (x : FVec Ideal S8x128 .f32) (q : Fin 2) :
    tail x (ix1 q) = Ideal.div (x (ix2 (0 : Fin 8) (⟨q.val, by omega⟩ : Fin 128))) (Scalar.ofBits (F := Ideal) .f32 0x45800000#32) := by
  unfold tail
  refine (hostDivf_apply _ _ _).trans (congrArg₂ Ideal.div ?_ (broadcastInDim_scalar_apply _ _ _))
  refine (shapeCast_apply _ _ (ix1 q) (ix2 (0 : Fin 1) q) ?_).trans (congrArg x ?_)
  · rw [Shape.rowMajor_val_two, Shape.rowMajor_val_one]
    show 0 * 2 + q.val = q.val
    omega
  · funext d
    match d with
    | ⟨0, _⟩ => rfl
    | ⟨1, _⟩ => exact Fin.ext (Nat.zero_add _)

/-- The share of rows whose diagonal ranks below one, and below ten. -/
def shareAll (Z Y : Op) : S2.Idx → EReal := fun j =>
  Ideal.div (∑ R : Fin 4096, one (rk Z Y R < bound (j 0))) (Scalar.ofBits (F := Ideal) .f32 0x45800000#32)

theorem tail_eq (Z Y : Op) (hZ : RowsNe Z) (hY : RowsNe Y) : tail (ACC (ops Z Y) 3) = shareAll Z Y := by
  funext j
  obtain ⟨q, rfl⟩ : ∃ q : Fin 2, j = ix1 q := ⟨j 0, eq_ix1 j⟩
  exact (tail_at _ q).trans (congrArg (Ideal.div · _) (ACC_at Z Y hZ hY q))

/-- Every fair run ends with the shares in the first result and the similarities in the second, the operands unchanged. -/
theorem run (hZ : ∀ c, RowsNe (opZ m c)) (hY : ∀ c, RowsNe (opY m c)) :
    θ_run defs (onTc (τ := τ) (main (F := Ideal))) ⟨m, fun _ => 0, ρ⟩ (fun r => ∀ c : Dev nD,
      r.2.mem ((c.tc : Thread nD τ).loc main_v0_0) = shareAll (opZ m c) (opY m c)
      ∧ r.2.mem ((c.tc : Thread nD τ).loc main_v0_1) = simAll (opZ m c) (opY m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(Pipeline.FramePost.rest_eq h c main_v0_0 (by decide)).trans ((after_tail m c).trans (tail_eq _ _ (hZ c) (hY c))),
        (Pipeline.FramePost.out_eq h c 3).trans (arr3 m c (hZ c) (hY c)),
        Pipeline.FramePost.in_eq h c 2 rfl, Pipeline.FramePost.in_eq h c 0 rfl⟩)
    (run_main (F := Ideal) m ρ)

end Cert.Value
-- ==== Proof.Hit.lean ====
/- A row's hit: its own position is among the first `k` of the row's greatest. -/
module

public import proofs.«01_k».proof.Proof.Rank
public import Idealize.ShloMosaic.Lib.ValueIdxCore
public import Idealize.ShloMosaic.Lib.ReduceAll
public import Idealize.ShloMosaic.Lib.WordCmp
public import Idealize.ShloMosaic.PureOps.Ideal.Laws

@[expose] public section

noncomputable section

namespace Cert.Hit

open Idealize.ShloMosaic Idealize.ShloMosaic.ValueIdx Cert.Rank

/-! ## "Or" along an axis -/

theorem ori_eq_one (a b : BitVec 1) : IntOp.ori a b = 1#1 ↔ a = 1#1 ∨ b = 1#1 := by revert a b; decide

theorem foldl_ori {ι : Type} (f : ι → BitVec 1) (l : List ι) (b : BitVec 1) :
    l.foldl (fun r n => IntOp.ori r (f n)) b = 1#1 ↔ b = 1#1 ∨ ∃ n ∈ l, f n = 1#1 := by
  induction l generalizing b with
  | nil => simp
  | cons a l ih => rw [List.foldl_cons, ih, ori_eq_one]; simp [or_assoc]

/-- An "or" from 0 along some axes is 1 where one of the bits reduced is 1. -/
theorem reduce_ori {s t u : Shape} {axes : List (Fin s.rank)} (x : s.Idx → BitVec 1) (init : u.Idx → BitVec 1)
    (h : s.ReducesTo axes t) (hu : 0 < u.numel) (j : t.Idx) (hi : init (Shape.Idx.first hu) = 0#1) :
    Host.reduce IntOp.ori x init h hu j = 1#1 ↔ ∃ i, h.drop i = j ∧ x i = 1#1 := by
  unfold Host.reduce
  rw [foldl_ori, hi]
  constructor
  · rintro (h' | ⟨n, hn, hx⟩)
    · exact absurd h' (by decide)
    · exact ⟨_, by simpa using hn, hx⟩
  · rintro ⟨i, hd, hx⟩
    exact Or.inr ⟨s.rowMajor i, by simpa using hd, by simpa using hx⟩

/-! ## The first `k` of a row -/

variable {n k : ℕ}

/-- A row of an array. -/
def rowOf (S : (⟨2, ![n, n]⟩ : Shape).Idx → EReal) (r : Fin n) : Fin n → EReal := fun c => S (ix2 r c)

theorem topK_at (S : FVec Ideal ⟨2, ![n, n]⟩ .f32) (h : (⟨2, ![n, n]⟩ : Shape).Slices (fun _ => 0) ⟨2, ![n, k]⟩) (hk : k ≤ n)
    (r : Fin n) (p : Fin k) :
    (Host.topK ⟨2, ![n, k]⟩ 1 (FloatOps.cmpfTotal (F := Ideal) (φ := .f32) .gt) S h).2 (ix2 r p)
      = BitVec.ofNat 32 (sortedFrom (beats (rowOf S r)) (p.castLE hk)).val := by
  have hR := sortedFrom_key (rowOf S r)
    (fun a b => FloatOps.cmpfTotal (F := Ideal) (φ := .f32) .gt (rowOf S r a) (rowOf S r b) == 1#1) (fun a b => by
      rw [Ideal.cmpfTotal_def]
      show (BitVec.ofBool (decide (rowOf S r b < rowOf S r a)) == 1#1) = _
      cases decide (rowOf S r b < rowOf S r a) <;> rfl)
  rw [← hR]
  have hj : (fun a => ⟨0 + ((ix2 r p : (⟨2, ![n, k]⟩ : Shape).Idx) (a.cast h.1.symm)).val,
      Nat.lt_of_lt_of_le (Nat.add_lt_add_left (Fin.isLt _) _) (h.2 a)⟩ : (⟨2, ![n, n]⟩ : Shape).Idx) = ix2 r (p.castLE hk) := by
    funext d
    match d with
    | ⟨0, _⟩ => exact Fin.ext (Nat.zero_add _)
    | ⟨1, _⟩ => exact Fin.ext (Nat.zero_add _)
  have ha : ∀ q : Fin n, (ix2 r (p.castLE hk) : (⟨2, ![n, n]⟩ : Shape).Idx).along 1 q = ix2 r q := fun q => by
    funext d
    match d with
    | ⟨0, _⟩ => rfl
    | ⟨1, _⟩ => rfl
  refine (congrArg (Host.sort2 (⟨2, ![n, n]⟩ : Shape) 1
    (fun l r : EReal × BitVec 32 => FloatOps.cmpfTotal (F := Ideal) (φ := .f32) .gt l.1 r.1) S
    (fun i => if hd : 1 < (⟨2, ![n, n]⟩ : Shape).rank then iotaInDim (⟨2, ![n, n]⟩ : Shape) 32 ⟨1, hd⟩ i else 0#32)).2 hj).trans ?_
  unfold Host.sort2
  rw [dif_pos (show 1 < (⟨2, ![n, n]⟩ : Shape).rank from Nat.lt_succ_self 1)]
  exact congrArg (fun R : Fin n → Fin n → Bool => BitVec.ofNat 32 (sortedFrom R (p.castLE hk)).val) (funext fun a => funext fun b =>
    congrArg₂ (fun u v : EReal => FloatOps.cmpfTotal (F := Ideal) (φ := .f32) .gt u v == 1#1) (congrArg S (ha a)) (congrArg S (ha b)))

/-- The bit that says so: the row number is one of the first `k` positions. -/
theorem hit_iff (S : FVec Ideal ⟨2, ![n, n]⟩ .f32) (hs : (⟨2, ![n, n]⟩ : Shape).Slices (fun _ => 0) ⟨2, ![n, k]⟩) (hk : k ≤ n)
    (hn : n < 2 ^ 32) (w : IVec ⟨2, ![n, k]⟩ 32) (hw : ∀ r p, w (ix2 r p) = BitVec.ofNat 32 r.val)
    {u : Shape} (init : u.Idx → BitVec 1) (h : (⟨2, ![n, k]⟩ : Shape).ReducesTo [1] ⟨1, ![n]⟩) (hu : 0 < u.numel)
    (hd : ∀ r p, h.drop (ix2 r p) = ix1 r) (hi : init (Shape.Idx.first hu) = 0#1) (r : Fin n) :
    Host.reduce IntOp.ori (cmpi .eq (Host.topK ⟨2, ![n, k]⟩ 1 (FloatOps.cmpfTotal (F := Ideal) (φ := .f32) .gt) S hs).2 w) init h hu (ix1 r)
      = 1#1 ↔ rank (rowOf S r) r < k := by
  rw [reduce_ori _ _ _ _ _ hi, ← mem_first_iff]
  constructor
  · rintro ⟨i, hdi, hx⟩
    obtain ⟨a, p, rfl⟩ : ∃ (a : Fin n) (p : Fin k), i = ix2 a p := ⟨i 0, i 1, eq_ix2 i⟩
    rw [hd] at hdi
    obtain rfl : r = a := (congrFun hdi 0).symm
    refine ⟨p.castLE hk, p.isLt, Fin.ext ?_⟩
    change IntOp.cmpi .eq _ _ = 1#1 at hx
    rw [topK_at S hs hk, hw] at hx
    exact (WordCmp.cmpi_eq_ofNat_eq_one_iff ((Fin.isLt _).trans hn) (r.isLt.trans hn)).mp hx
  · rintro ⟨p, hp, e⟩
    refine ⟨ix2 r ⟨p.val, hp⟩, hd _ _, ?_⟩
    change IntOp.cmpi .eq _ _ = 1#1
    rw [topK_at S hs hk, hw]
    refine (WordCmp.cmpi_eq_ofNat_eq_one_iff ((Fin.isLt _).trans hn) (r.isLt.trans hn)).mpr ?_
    exact congrArg Fin.val e

end Cert.Hit
-- ==== Proof.Reference.lean ====
/- The reference's two results by entries: the similarities, and the shares of rows whose diagonal is among the first
   one and the first ten. -/
module

public import proofs.«01_k».proof.Proof.Gen.ReferenceIdeal
public import proofs.«01_k».proof.Proof.Hit
public import proofs.«01_k».proof.Proof.Ranks
public import Idealize.ShloMosaic.Lib.IdealHost
public import Idealize.ShloMosaic.Lib.StackMember
public import Idealize.ShloMosaic.Lib.Pipeline.Value
public import Idealize.ShloMosaic.Lib.ValueLayout

@[expose] public section

set_option maxRecDepth 16384

noncomputable section

open scoped BigOperators

namespace Cert.Reference

open Cert.ReferenceIdeal Cert.ReferenceIdeal.Gen Cert.Math Cert.Rank Cert.Hit Cert.Ranks
open Idealize.ShloMosaic Idealize.ShloMosaic.ValueIdx

/-- An array with each row divided by its length, as the reference spells it. -/
def unitRows (X : FVec Ideal S4096x1024 .f32) : FVec Ideal S4096x1024 .f32 :=
  Host.divf X (broadcastInDim S4096x1024 ![0, 1] bcast_S4096x1_S4096x1024_0_1 (Host.sqrt (broadcastInDim S4096x1 ![0] bcast_S4096_S4096x1_0
    (Host.reduceAdd (mulf X X) (constant S_ .f32 0x00000000#32) reducesTo_S4096x1024_S4096_d1 h_S_))))

/-- The similarities, as the reference spells them. -/
def sims (Z Y : FVec Ideal S4096x1024 .f32) : FVec Ideal S4096x4096 .f32 :=
  Host.dotGeneral dot_S4096x1024_S1024x4096_S4096x4096_1_0_0_1_n_n none (unitRows Y)
    (transpose S1024x4096 [1, 0] (unitRows Z) transposes_S4096x1024_S1024x4096_1_0)

theorem unitRows_at (X : FVec Ideal S4096x1024 .f32) (r : Fin 4096) (k : Fin 1024) : unitRows X (ix2 r k) = nrm X r k := by
  unfold unitRows nrm
  refine (hostDivf_apply _ _ _).trans (congrArg (Ideal.div (X (ix2 r k))) ?_)
  refine (broadcastInDim_apply _ _ _ _ (ix2 r (0 : Fin 1)) fun a => by match a with | ⟨0, _⟩ => rfl | ⟨1, _⟩ => rfl).trans ?_
  refine congrArg Ideal.sqrt ((broadcastInDim_apply _ _ _ _ (ix1 r) fun a => by match a with | ⟨0, _⟩ => rfl).trans ?_)
  refine (hostReduceAdd_apply _ _ _ _ _).trans ?_
  refine (Ideal.hostReduceAdd_single _ (by decide : S4096x1024.Reduces [1] S4096) _ _ _).trans ?_
  refine (congrArg (· + _) Ideal.ofBits_zero_f32).trans ((zero_add _).trans (Finset.sum_congr rfl fun q _ => ?_))
  have e : (by decide : S4096x1024.Reduces [1] S4096).lift (ix1 r) q = ix2 r q := by
    funext d
    match d with
    | ⟨0, _⟩ => rfl
    | ⟨1, _⟩ => rfl
  exact congrArg (mulf (F := Ideal) (φ := .f32) X X) e

theorem sims_at (Z Y : FVec Ideal S4096x1024 .f32) (r c : Fin 4096) : sims Z Y (ix2 r c) = sim Z Y r c := by
  unfold sims sim
  refine (StackMember.dotGeneral_plain_apply none (unitRows Y) _ r c).trans (Finset.sum_congr rfl fun k _ => ?_)
  exact congrArg₂ (fun a b : EReal => a * b) (unitRows_at Y r k) ((transpose_ix2_apply (unitRows Z) _ k c).trans (unitRows_at Z c k))

theorem rowOf_sims (Z Y : FVec Ideal S4096x1024 .f32) (r : Fin 4096) : rowOf (sims Z Y) r = sim Z Y r := funext fun c => sims_at Z Y r c

/-- The share of rows whose bit is set, as the reference spells it. -/
def share (b : IVec S4096 1) : FVec Ideal S_ .f32 :=
  Host.divf (Host.reduceAdd (uitofp .f32 b) (constant S_ .f32 0x00000000#32) reducesTo_S4096_S_d0 h_S_) (constant S_ .f32 0x45800000#32)

/-- The number of rows, read back from its word. -/
def rows : EReal := Scalar.ofBits (F := Ideal) .f32 0x45800000#32

theorem share_at (b : IVec S4096 1) (p : Fin 4096 → Prop) [DecidablePred p] (hb : ∀ r, b (ix1 r) = 1#1 ↔ p r) (j : S_.Idx) :
    share b j = Ideal.div (∑ r, one (p r)) rows := by
  refine (hostDivf_apply _ _ _).trans (congrArg (Ideal.div · rows) ?_)
  refine (hostReduceAdd_apply _ _ _ _ _).trans ((Ideal.hostReduceAdd_total _ (fun b => b.elim0) _ _ _).trans ?_)
  refine (congrArg (· + _) Ideal.ofBits_zero_f32).trans ((zero_add _).trans ?_)
  refine Fintype.sum_equiv (⟨fun i => i 0, fun r => ix1 r, fun i => (eq_ix1 i).symm, fun r => rfl⟩ : S4096.Idx ≃ Fin 4096) _ _ fun i => ?_
  obtain ⟨r, rfl⟩ : ∃ r : Fin 4096, i = ix1 r := ⟨i 0, eq_ix1 i⟩
  show (((b (ix1 r)).toNat : ℝ) : EReal) = one (p r)
  unfold one
  by_cases h : p r
  · rw [if_pos h, (hb r).mpr h]
    norm_num
  · rw [if_neg h, show b (ix1 r) = 0#1 from by
      have := mt (hb r).mp h
      generalize b (ix1 r) = x at this
      revert this; revert x; decide]
    norm_num

variable (Z Y : FVec Ideal S4096x1024 .f32)

/-- The row's own number is its first position. -/
def first1 : IVec S4096 1 :=
  Host.reduce IntOp.ori (cmpi .eq ((Host.topK S4096x1 1 (FloatOps.cmpfTotal (F := Ideal) (φ := .f32) .gt) (sims Z Y) sliceFits_S4096x4096_S4096x1).2)
    (broadcastInDim S4096x1 ![0] bcast_S4096_S4096x1_0 (iotaInDim S4096 32 0))) (constantI S_ 1 0#1) reducesTo_S4096x1_S4096_d1 h_S_

/-- The row's own number is among its first ten positions. -/
def first10 : IVec S4096 1 :=
  Host.reduce IntOp.ori (cmpi .eq ((Host.topK S4096x10 1 (FloatOps.cmpfTotal (F := Ideal) (φ := .f32) .gt) (sims Z Y) sliceFits_S4096x4096_S4096x10).2)
    (broadcastInDim S4096x10 ![0, 1] bcast_S4096x1_S4096x10_0_1 (broadcastInDim S4096x1 ![0] bcast_S4096_S4096x1_0 (iotaInDim S4096 32 0))))
    (constantI S_ 1 0#1) reducesTo_S4096x10_S4096_d1 h_S_

theorem own_at (r : Fin 4096) (p : Fin 1) : broadcastInDim S4096x1 ![0] bcast_S4096_S4096x1_0 (iotaInDim S4096 32 0) (ix2 r p) = BitVec.ofNat 32 r.val :=
  broadcastInDim_apply _ _ _ _ (ix1 r) fun a => by match a with | ⟨0, _⟩ => rfl

theorem first1_at (r : Fin 4096) : first1 Z Y (ix1 r) = 1#1 ↔ rk Z Y r < 1 := by
  unfold first1 rk
  rw [← rowOf_sims]
  exact hit_iff (sims Z Y) _ (by omega) (by omega) _ own_at _ _ _ (fun r p => by funext d; match d with | ⟨0, _⟩ => rfl) rfl r

theorem first10_at (r : Fin 4096) : first10 Z Y (ix1 r) = 1#1 ↔ rk Z Y r < 10 := by
  unfold first10 rk
  rw [← rowOf_sims]
  exact hit_iff (sims Z Y) _ (by omega) (by omega) _
    (fun r p => (broadcastInDim_apply _ _ _ _ (ix2 r (0 : Fin 1)) fun a => by match a with | ⟨0, _⟩ => rfl | ⟨1, _⟩ => rfl).trans (own_at r 0))
    _ _ _ (fun r p => by funext d; match d with | ⟨0, _⟩ => rfl) rfl r

/-- Both shares, side by side. -/
def shares : FVec Ideal S2 .f32 :=
  concatenate S2 0 [⟨S1, broadcastInDim S1 ![] bcast_S_S1 (share (first1 Z Y))⟩, ⟨S1, broadcastInDim S1 ![] bcast_S_S1 (share (first10 Z Y))⟩]
    concatenates_S1_S1_S2_d0

theorem shares_at (q : Fin 2) : shares Z Y (ix1 q) = Ideal.div (∑ r, one (rk Z Y r < bound q)) rows := by
  unfold shares
  match q with
  | ⟨0, _⟩ =>
    refine (concatenate_pair_apply_left (t := S2) (s₁ := S1) (s₂ := S1) 0 _ _ _ _ rfl (ix1 (0 : Fin 1)) fun b => by match b with | ⟨0, _⟩ => rfl).trans ?_
    exact (broadcastInDim_scalar_apply _ _ _).trans (share_at _ _ (first1_at Z Y) _)
  | ⟨1, _⟩ =>
    refine (concatenate_pair_apply_right (t := S2) (s₁ := S1) (s₂ := S1) 0 _ _ _ (ix1 (1 : Fin 2)) rfl rfl (ix1 (0 : Fin 1)) (fun b hb => by match b with | ⟨0, _⟩ => exact absurd rfl hb) rfl).trans ?_
    exact (broadcastInDim_scalar_apply _ _ _).trans (share_at _ _ (first10_at Z Y) _)

end Cert.Reference
-- ==== Proof.Algebraic.lean ====
/- The idealized program and the reference end with equal results, wherever no operand has a row of zeros. -/
module

public import proofs.«01_k».proof.Defs
public import proofs.«01_k».proof.Proof.Value
public import proofs.«01_k».proof.Proof.Reference
public import proofs.«01_k».proof.Proof.Gen.ReferenceIdeal.Run

@[expose] public section

set_option maxRecDepth 16384

noncomputable section

namespace Cert.Proof

open Idealize.ShloMosaic Idealize.ShloMosaic.ValueIdx Idealize.SL.Sem
open Cert.Math

/-- The side conditions of the precondition's own operations. -/
theorem preFacts : Cert.Pre_rows_nonzero.Facts := ⟨by decide, by decide, by decide⟩

/-- A row whose bit is set has an entry that is not zero. -/
theorem entry_ne (X : FVec Ideal Cert.Pre_rows_nonzero.S4096x1024 .f32) (h1) (h : Cert.Pre_rows_nonzero.S4096x1024.ReducesTo [1] Cert.Pre_rows_nonzero.S4096) (hu)
    (r : Fin 4096)
    (hx : Host.reduce IntOp.ori (cmpf .une X (broadcastInDim Cert.Pre_rows_nonzero.S4096x1024 ![] h1 (constant (F := Ideal) Cert.Pre_rows_nonzero.S_ .f32 0x00000000#32)))
      (constantI Cert.Pre_rows_nonzero.S_ 1 0#1) h hu (ix1 r) = 1#1) : ∃ k : Fin 1024, X (ix2 r k) ≠ (0 : EReal) := by
  obtain ⟨i, hi, hb⟩ := (Cert.Hit.reduce_ori _ _ h hu _ rfl).mp hx
  obtain ⟨a, k, rfl⟩ : ∃ (a : Fin 4096) (k : Fin 1024), i = ix2 a k := ⟨i 0, i 1, eq_ix2 i⟩
  obtain rfl : a = r := congrFun hi 0
  refine ⟨k, fun e => ?_⟩
  have hz : broadcastInDim Cert.Pre_rows_nonzero.S4096x1024 ![] h1 (constant (F := Ideal) Cert.Pre_rows_nonzero.S_ .f32 0x00000000#32) (ix2 a k) = (0 : EReal) :=
    (broadcastInDim_scalar_apply _ _ _).trans Ideal.ofBits_zero_f32
  change FloatOps.cmpf (F := Ideal) (φ := .f32) .une (X (ix2 a k)) _ = 1#1 at hb
  rw [e, hz] at hb
  change BitVec.ofBool (decide ((0 : EReal) ≠ 0)) = 1#1 at hb
  simp at hb

theorem and_one {a b : BitVec 1} (h : IntOp.andi a b = 1#1) : a = 1#1 ∧ b = 1#1 := by
  revert h; revert a b; decide

theorem rowsNe (Z Y : FVec Ideal Cert.Pre_rows_nonzero.S4096x1024 .f32)
    (h : (letI := preFacts; Cert.Pre_rows_nonzero.fn (F := Ideal) Z Y) = fun _ => 1#1) : RowsNe Z ∧ RowsNe Y :=
  ⟨fun r => entry_ne Z _ _ _ r (and_one (congrFun h (ix1 r))).1, fun r => entry_ne Y _ _ _ r (and_one (congrFun h (ix1 r))).2⟩

theorem sims_eq (Z Y : Op) : Cert.Reference.sims Z Y = Cert.Value.simAll Z Y := by
  funext j
  obtain ⟨r, c, rfl⟩ : ∃ r c : Fin 4096, j = ix2 r c := ⟨j 0, j 1, eq_ix2 j⟩
  exact Cert.Reference.sims_at Z Y r c

theorem shares_eq (Z Y : Op) : Cert.Reference.shares Z Y = Cert.Value.shareAll Z Y := by
  funext j
  obtain ⟨q, rfl⟩ : ∃ q : Fin 2, j = ix1 q := ⟨j 0, eq_ix1 j⟩
  exact Cert.Reference.shares_at Z Y q

theorem algebraic : Cert.algebraic_KernelIdeal_ReferenceIdeal_pre_rows_nonzero (hKernelIdeal := Cert.KernelIdeal.Gen.facts)
    (hReferenceIdeal := Cert.ReferenceIdeal.Gen.facts) (hPre_rows_nonzero := preFacts) := by
  intro m g m' g' hp hm
  have hr := fun c => rowsNe _ _ (hp c)
  refine ⟨fun c => Cert.Value.shareAll (Cert.Value.opZ m c) (Cert.Value.opY m c), fun c => Cert.Value.simAll (Cert.Value.opZ m c) (Cert.Value.opY m c),
    Cert.Value.run m g (fun c => (hr c).1) (fun c => (hr c).2),
    (θ_run Cert.ReferenceIdeal.defs _ _).mono (fun r h c => ?_) (Cert.ReferenceIdeal.Value.run (F := Ideal) m' g')⟩
  obtain ⟨h24, h8, h0, h1⟩ := h c
  refine ⟨h24.trans ?_, h8.trans ?_, h0, h1⟩
  · rw [(hm c).1, (hm c).2]
    exact shares_eq (Cert.Value.opZ m c) (Cert.Value.opY m c)
  · rw [(hm c).1, (hm c).2]
    exact sims_eq (Cert.Value.opZ m c) (Cert.Value.opY m c)

end Cert.Proof
-- ==== Proof.Frames.lean ====
/- The frames, each of the two idealized programs' also where the precondition holds. -/
module

public import proofs.«01_k».proof.Defs
public import proofs.«01_k».proof.Proof.Same
public import proofs.«01_k».proof.Proof.Algebraic
public import proofs.«01_k».proof.Proof.Gen.ReferenceIdeal.Run
public import Idealize.ShloMosaic.PureOps.BitExact

@[expose] public section

noncomputable section

namespace Cert.Proof

open Idealize.ShloMosaic Idealize.SL.Sem

/-- The compiled program's frame: `Cert.Same.frame_kernel` at machine floats, -/
theorem frame_p : Cert.quiescent_Kernel (hKernel := Cert.Kernel.Gen.facts) := fun m g _ => Cert.Same.frame_kernel (F := Bits) m g
/-- the idealized program's, at extended reals, -/
theorem frame_pi : Cert.quiescent_KernelIdeal (hKernelIdeal := Cert.KernelIdeal.Gen.facts) := fun m g _ => Cert.Body.frame_run (F := Ideal) m g
/-- and the reference's: its arguments are no operation's result, and it has no semaphore. -/
theorem frame_ri : Cert.quiescent_ReferenceIdeal (hReferenceIdeal := Cert.ReferenceIdeal.Gen.facts) := fun m g _ =>
  (θ_run Cert.ReferenceIdeal.defs _ _).mono (fun r h => ⟨fun c => ⟨(h c).2.2.1, (h c).2.2.2⟩,
      Idealize.ShloMosaic.sem_eq_zero_of_no_sems (by decide) r.2⟩)
    (Cert.ReferenceIdeal.Value.run (F := Ideal) m g)

theorem frame_pi_pre : Cert.quiescent_KernelIdeal_pre_rows_nonzero (hKernelIdeal := Cert.KernelIdeal.Gen.facts) (hPre_rows_nonzero := preFacts) :=
  fun m g _ => frame_pi m g trivial
theorem frame_ri_pre : Cert.quiescent_ReferenceIdeal_pre_rows_nonzero (hReferenceIdeal := Cert.ReferenceIdeal.Gen.facts) (hPre_rows_nonzero := preFacts) :=
  fun m g _ => frame_ri m g trivial

end Cert.Proof

end
-- ==== Proof.lean ====
module

public import proofs.«01_k».proof.Defs
public import proofs.«01_k».proof.Proof.Frames

@[expose] public section

noncomputable section

namespace Cert.Proof

theorem claim : Cert.Claim := ⟨Cert.Kernel.Gen.facts, Cert.KernelIdeal.Gen.facts, Cert.ReferenceIdeal.Gen.facts, preFacts,
  frame_p, frame_pi, frame_pi_pre, frame_ri, frame_ri_pre, trivial, algebraic⟩

end Cert.Proof

end
